-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_index_range [hPre_index_range : Cert.Pre_index_range.Facts] (m : (ℓ : Loc Cert.KernelIdeal.nD Cert.KernelIdeal.τ Cert.KernelIdeal.sig) → Buf (Elt Ideal) ℓ) : Prop :=
  ∀ c : Dev Cert.KernelIdeal.nD,
    (Cert.Pre_index_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_index_range [hPre_index_range : Cert.Pre_index_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_index_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_index_range [hKernelIdeal : Cert.KernelIdeal.Facts] [hPre_index_range : Cert.Pre_index_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_index_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_index_range [hReferenceIdeal : Cert.ReferenceIdeal.Facts] [hPre_index_range : Cert.Pre_index_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_index_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_index_range [hKernelIdeal : Cert.KernelIdeal.Facts] [hReferenceIdeal : Cert.ReferenceIdeal.Facts] [hPre_index_range : Cert.Pre_index_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_index_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_index_range : Cert.Pre_index_range.Facts),
    quiescent_Kernel (hKernel := hKernel)
    ∧ quiescent_KernelIdeal (hKernelIdeal := hKernelIdeal)
    ∧ quiescent_KernelIdeal_pre_index_range (hKernelIdeal := hKernelIdeal) (hPre_index_range := hPre_index_range)
    ∧ quiescent_ReferenceIdeal (hReferenceIdeal := hReferenceIdeal)
    ∧ quiescent_ReferenceIdeal_pre_index_range (hReferenceIdeal := hReferenceIdeal) (hPre_index_range := hPre_index_range)
    ∧ preserves_Kernel_KernelIdeal
    ∧ algebraic_KernelIdeal_ReferenceIdeal_pre_index_range (hKernelIdeal := hKernelIdeal) (hReferenceIdeal := hReferenceIdeal) (hPre_index_range := hPre_index_range)
-- ==== Pre_index_range.lean ====
abbrev S4096x200x5 : Shape := ⟨3, ![4096, 200, 5]⟩
abbrev S4x128 : Shape := ⟨2, ![4, 128]⟩
abbrev S24x128 : Shape := ⟨2, ![24, 128]⟩
abbrev S7x128 : Shape := ⟨2, ![7, 128]⟩
abbrev S32x128 : Shape := ⟨2, ![32, 128]⟩
abbrev S13x128 : Shape := ⟨2, ![13, 128]⟩
abbrev S_ : Shape := ⟨0, ![]⟩

class Facts : Prop where
  bcast_S_S4096x200x5 : S_.BroadcastsInDim S4096x200x5 (![] : Fin 0 → Fin S4096x200x5.rank)
  reducesTo_S4096x200x5_S_d0_1_2 : S4096x200x5.ReducesTo [0, 1, 2] S_
  h_S_ : 0 < S_.numel

variable [Facts]

def fn {F : FTy → Type} [FloatOps F] (main_arg0 : IVec S4096x200x5 32) (main_arg1 : FVec F S4x128 .f32) (main_arg2 : FVec F S24x128 .f32) (main_arg3 : FVec F S7x128 .f32) (main_arg4 : FVec F S32x128 .f32) (main_arg5 : FVec F S13x128 .f32) : IVec S_ 1 :=
  let main_c : IVec S_ 32 := constantI S_ 32 0#32
  let main_v0 : IVec S4096x200x5 32 := broadcastInDim S4096x200x5 ![] bcast_S_S4096x200x5 main_c
  let main_v1 : IVec S4096x200x5 1 := cmpi .sge main_arg0 main_v0
  let main_c_0 : IVec S_ 32 := constantI S_ 32 4#32
  let main_v2 : IVec S4096x200x5 32 := broadcastInDim S4096x200x5 ![] bcast_S_S4096x200x5 main_c_0
  let main_v3 : IVec S4096x200x5 1 := cmpi .slt main_arg0 main_v2
  let main_v4 : IVec S4096x200x5 1 := andi main_v1 main_v3
  let main_c_1 : IVec S_ 1 := constantI S_ 1 1#1
  let main_v5 : IVec S_ 1 := (fun x v => Host.reduce IntOp.andi x v reducesTo_S4096x200x5_S_d0_1_2 h_S_) main_v4 main_c_1
  main_v5
-- ==== Kernel.lean ====
abbrev S4096x200x5 : Shape := ⟨3, ![4096, 200, 5]⟩
abbrev S4x128 : Shape := ⟨2, ![4, 128]⟩
abbrev S24x128 : Shape := ⟨2, ![24, 128]⟩
abbrev S7x128 : Shape := ⟨2, ![7, 128]⟩
abbrev S32x128 : Shape := ⟨2, ![32, 128]⟩
abbrev S13x128 : Shape := ⟨2, ![13, 128]⟩
abbrev S1000x200 : Shape := ⟨2, ![1000, 200]⟩
abbrev S4x1x1x128 : Shape := ⟨4, ![4, 1, 1, 128]⟩
abbrev S1x4x1x128 : Shape := ⟨4, ![1, 4, 1, 128]⟩
abbrev S4x4x1x128 : Shape := ⟨4, ![4, 4, 1, 128]⟩
abbrev S1x1x4x128 : Shape := ⟨4, ![1, 1, 4, 128]⟩
abbrev S4x4x4x128 : Shape := ⟨4, ![4, 4, 4, 128]⟩
abbrev S64x128 : Shape := ⟨2, ![64, 128]⟩
abbrev S4x1x128 : Shape := ⟨3, ![4, 1, 128]⟩
abbrev S1x4x128 : Shape := ⟨3, ![1, 4, 128]⟩
abbrev S4x4x128 : Shape := ⟨3, ![4, 4, 128]⟩
abbrev S16x128 : Shape := ⟨2, ![16, 128]⟩
abbrev S_ : Shape := ⟨0, ![]⟩
abbrev S4096x1000 : Shape := ⟨2, ![4096, 1000]⟩
abbrev S128x4096x200 : Shape := ⟨3, ![128, 4096, 200]⟩
abbrev S128x1000 : Shape := ⟨2, ![128, 1000]⟩
abbrev S128x128x200 : Shape := ⟨3, ![128, 128, 200]⟩
abbrev S128x200 : Shape := ⟨2, ![128, 200]⟩
abbrev S64x200 : Shape := ⟨2, ![64, 200]⟩
abbrev S16x200 : Shape := ⟨2, ![16, 200]⟩
abbrev S1x200 : Shape := ⟨2, ![1, 200]⟩
abbrev S128x1x200 : Shape := ⟨3, ![128, 1, 200]⟩

abbrev nBuf : Space → Nat
  | .hbm => 54
  | .vmem => 8
  | .smem => 0
  | _ => 0

abbrev bufTy : (tb : Table) → Fin (tcTables nBuf tb) → BufTy
  | .hbm, ⟨0, _⟩ => ⟨S4096x200x5, .i32⟩
  | .hbm, ⟨1, _⟩ => ⟨S4x128, .f32⟩
  | .hbm, ⟨2, _⟩ => ⟨S24x128, .f32⟩
  | .hbm, ⟨3, _⟩ => ⟨S7x128, .f32⟩
  | .hbm, ⟨4, _⟩ => ⟨S32x128, .f32⟩
  | .hbm, ⟨5, _⟩ => ⟨S13x128, .f32⟩
  | .hbm, ⟨6, _⟩ => ⟨S1000x200, .bf16⟩
  | .hbm, ⟨7, _⟩ => ⟨S4x128, .f32⟩
  | .hbm, ⟨8, _⟩ => ⟨S4x1x1x128, .f32⟩
  | .hbm, ⟨9, _⟩ => ⟨S4x128, .f32⟩
  | .hbm, ⟨10, _⟩ => ⟨S1x4x1x128, .f32⟩
  | .hbm, ⟨11, _⟩ => ⟨S4x4x1x128, .f32⟩
  | .hbm, ⟨12, _⟩ => ⟨S4x4x1x128, .f32⟩
  | .hbm, ⟨13, _⟩ => ⟨S4x4x1x128, .f32⟩
  | .hbm, ⟨14, _⟩ => ⟨S4x128, .f32⟩
  | .hbm, ⟨15, _⟩ => ⟨S1x1x4x128, .f32⟩
  | .hbm, ⟨16, _⟩ => ⟨S4x4x4x128, .f32⟩
  | .hbm, ⟨17, _⟩ => ⟨S4x4x4x128, .f32⟩
  | .hbm, ⟨18, _⟩ => ⟨S4x4x4x128, .f32⟩
  | .hbm, ⟨19, _⟩ => ⟨S64x128, .f32⟩
  | .hbm, ⟨20, _⟩ => ⟨S4x128, .f32⟩
  | .hbm, ⟨21, _⟩ => ⟨S4x1x128, .f32⟩
  | .hbm, ⟨22, _⟩ => ⟨S1x4x128, .f32⟩
  | .hbm, ⟨23, _⟩ => ⟨S4x4x128, .f32⟩
  | .hbm, ⟨24, _⟩ => ⟨S4x4x128, .f32⟩
  | .hbm, ⟨25, _⟩ => ⟨S4x4x128, .f32⟩
  | .hbm, ⟨26, _⟩ => ⟨S16x128, .f32⟩
  | .hbm, ⟨27, _⟩ => ⟨S1000x200, .i32⟩
  | .hbm, ⟨28, _⟩ => ⟨S1000x200, .i32⟩
  | .hbm, ⟨29, _⟩ => ⟨S_, .f32⟩
  | .hbm, ⟨30, _⟩ => ⟨S1000x200, .f32⟩
  | .hbm, ⟨31, _⟩ => ⟨S_, .i32⟩
  | .hbm, ⟨32, _⟩ => ⟨S1000x200, .i32⟩
  | .hbm, ⟨33, _⟩ => ⟨S1000x200, .i32⟩
  | .hbm, ⟨34, _⟩ => ⟨S_, .i32⟩
  | .hbm, ⟨35, _⟩ => ⟨S1000x200, .i32⟩
  | .hbm, ⟨36, _⟩ => ⟨S1000x200, .i32⟩
  | .hbm, ⟨37, _⟩ => ⟨S1000x200, .i1⟩
  | .hbm, ⟨38, _⟩ => ⟨S_, .f32⟩
  | .hbm, ⟨39, _⟩ => ⟨S1000x200, .f32⟩
  | .hbm, ⟨40, _⟩ => ⟨S1000x200, .f32⟩
  | .hbm, ⟨41, _⟩ => ⟨S_, .i32⟩
  | .hbm, ⟨42, _⟩ => ⟨S1000x200, .i32⟩
  | .hbm, ⟨43, _⟩ => ⟨S1000x200, .i32⟩
  | .hbm, ⟨44, _⟩ => ⟨S_, .i32⟩
  | .hbm, ⟨45, _⟩ => ⟨S1000x200, .i32⟩
  | .hbm, ⟨46, _⟩ => ⟨S1000x200, .i32⟩
  | .hbm, ⟨47, _⟩ => ⟨S1000x200, .i1⟩
  | .hbm, ⟨48, _⟩ => ⟨S_, .f32⟩
  | .hbm, ⟨49, _⟩ => ⟨S1000x200, .f32⟩
  | .hbm, ⟨50, _⟩ => ⟨S1000x200, .f32⟩
  | .hbm, ⟨51, _⟩ => ⟨S4096x1000, .i32⟩
  | .hbm, ⟨52, _⟩ => ⟨S1000x200, .bf16⟩
  | .hbm, ⟨53, _⟩ => ⟨S128x4096x200, .f32⟩
  | .local _ .vmem, ⟨0, _⟩ => ⟨S128x1000, .i32⟩
  | .local _ .vmem, ⟨1, _⟩ => ⟨S128x1000, .i32⟩
  | .local _ .vmem, ⟨2, _⟩ => ⟨S1000x200, .bf16⟩
  | .local _ .vmem, ⟨3, _⟩ => ⟨S1000x200, .bf16⟩
  | .local _ .vmem, ⟨4, _⟩ => ⟨S64x128, .f32⟩
  | .local _ .vmem, ⟨5, _⟩ => ⟨S16x128, .f32⟩
  | .local _ .vmem, ⟨6, _⟩ => ⟨S128x128x200, .f32⟩
  | .local _ .vmem, ⟨7, _⟩ => ⟨S128x128x200, .f32⟩
  | _, _ => ⟨S4096x200x5, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_c : Ref sig .tc := ⟨.hbm, 31, rfl⟩
abbrev main_v23 : Ref sig .tc := ⟨.hbm, 32, rfl⟩
abbrev main_v24 : Ref sig .tc := ⟨.hbm, 33, rfl⟩
abbrev main_c_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_c_3 : Ref sig .tc := ⟨.hbm, 41, rfl⟩
abbrev main_v30 : Ref sig .tc := ⟨.hbm, 42, rfl⟩
abbrev main_v31 : Ref sig .tc := ⟨.hbm, 43, rfl⟩
abbrev main_c_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x1000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1000x200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x128x200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4096x200x5 : Shape := ⟨3, ![4096, 200, 5]⟩
abbrev S4x128 : Shape := ⟨2, ![4, 128]⟩
abbrev S24x128 : Shape := ⟨2, ![24, 128]⟩
abbrev S7x128 : Shape := ⟨2, ![7, 128]⟩
abbrev S32x128 : Shape := ⟨2, ![32, 128]⟩
abbrev S13x128 : Shape := ⟨2, ![13, 128]⟩
abbrev S4096x200x1 : Shape := ⟨3, ![4096, 200, 1]⟩
abbrev S4096x200 : Shape := ⟨2, ![4096, 200]⟩
abbrev S_ : Shape := ⟨0, ![]⟩
abbrev S1 : Shape := ⟨1, ![1]⟩
abbrev S1x1x1 : Shape := ⟨3, ![1, 1, 1]⟩
abbrev S4096x200x128 : Shape := ⟨3, ![4096, 200, 128]⟩
abbrev S128x4096x200 : Shape := ⟨3, ![128, 4096, 200]⟩

abbrev nBuf : Space → Nat
  | .hbm => 136
  | .vmem => 0
  | .smem => 0
  | _ => 0

abbrev hbmTy0_0 (i : Nat) : BufTy := match i % 128 with
  | 0 => ⟨S4096x200x5, .i32⟩
  | 1 => ⟨S4x128, .f32⟩
  | 2 => ⟨S24x128, .f32⟩
  | 3 => ⟨S7x128, .f32⟩
  | 4 => ⟨S32x128, .f32⟩
  | 5 => ⟨S13x128, .f32⟩
  | 6 => ⟨S4096x200x1, .i32⟩
  | 7 => ⟨S4096x200, .i32⟩
  | 8 => ⟨S_, .i32⟩
  | 9 => ⟨S4096x200, .i32⟩
  | 10 => ⟨S4096x200, .i1⟩
  | 11 => ⟨S_, .i32⟩
  | 12 => ⟨S4096x200, .i32⟩
  | 13 => ⟨S4096x200, .i32⟩
  | 14 => ⟨S4096x200, .i32⟩
  | 15 => ⟨S4096x200x1, .i32⟩
  | 16 => ⟨S1, .i32⟩
  | 17 => ⟨S_, .i32⟩
  | 18 => ⟨S4096x200x1, .i32⟩
  | 19 => ⟨S4096x200x1, .i1⟩
  | 20 => ⟨S1x1x1, .i32⟩
  | 21 => ⟨S4096x200x1, .i32⟩
  | 22 => ⟨S4096x200x1, .i1⟩
  | 23 => ⟨S4096x200x1, .i1⟩
  | 24 => ⟨S_, .i1⟩
  | 25 => ⟨S4096x200, .i1⟩
  | 26 => ⟨S4096x200x128, .f32⟩
  | 27 => ⟨S4096x200x128, .i1⟩
  | 28 => ⟨S_, .f32⟩
  | 29 => ⟨S4096x200x128, .f32⟩
  | 30 => ⟨S4096x200x128, .f32⟩
  | 31 => ⟨S4096x200x1, .i32⟩
  | 32 => ⟨S4096x200, .i32⟩
  | 33 => ⟨S_, .i32⟩
  | 34 => ⟨S4096x200, .i32⟩
  | 35 => ⟨S4096x200, .i1⟩
  | 36 => ⟨S_, .i32⟩
  | 37 => ⟨S4096x200, .i32⟩
  | 38 => ⟨S4096x200, .i32⟩
  | 39 => ⟨S4096x200, .i32⟩
  | 40 => ⟨S4096x200x1, .i32⟩
  | 41 => ⟨S1, .i32⟩
  | 42 => ⟨S_, .i32⟩
  | 43 => ⟨S4096x200x1, .i32⟩
  | 44 => ⟨S4096x200x1, .i1⟩
  | 45 => ⟨S1x1x1, .i32⟩
  | 46 => ⟨S4096x200x1, .i32⟩
  | 47 => ⟨S4096x200x1, .i1⟩
  | 48 => ⟨S4096x200x1, .i1⟩
  | 49 => ⟨S_, .i1⟩
  | 50 => ⟨S4096x200, .i1⟩
  | 51 => ⟨S4096x200x128, .f32⟩
  | 52 => ⟨S4096x200x128, .i1⟩
  | 53 => ⟨S_, .f32⟩
  | 54 => ⟨S4096x200x128, .f32⟩
  | 55 => ⟨S4096x200x128, .f32⟩
  | 56 => ⟨S4096x200x1, .i32⟩
  | 57 => ⟨S4096x200, .i32⟩
  | 58 => ⟨S_, .i32⟩
  | 59 => ⟨S4096x200, .i32⟩
  | 60 => ⟨S4096x200, .i1⟩
  | 61 => ⟨S_, .i32⟩
  | 62 => ⟨S4096x200, .i32⟩
  | 63 => ⟨S4096x200, .i32⟩
  | 64 => ⟨S4096x200, .i32⟩
  | 65 => ⟨S4096x200x1, .i32⟩
  | 66 => ⟨S1, .i32⟩
  | 67 => ⟨S_, .i32⟩
  | 68 => ⟨S4096x200x1, .i32⟩
  | 69 => ⟨S4096x200x1, .i1⟩
  | 70 => ⟨S1x1x1, .i32⟩
  | 71 => ⟨S4096x200x1, .i32⟩
  | 72 => ⟨S4096x200x1, .i1⟩
  | 73 => ⟨S4096x200x1, .i1⟩
  | 74 => ⟨S_, .i1⟩
  | 75 => ⟨S4096x200, .i1⟩
  | 76 => ⟨S4096x200x128, .f32⟩
  | 77 => ⟨S4096x200x128, .i1⟩
  | 78 => ⟨S_, .f32⟩
  | 79 => ⟨S4096x200x128, .f32⟩
  | 80 => ⟨S4096x200x128, .f32⟩
  | 81 => ⟨S4096x200x1, .i32⟩
  | 82 => ⟨S4096x200, .i32⟩
  | 83 => ⟨S_, .i32⟩
  | 84 => ⟨S4096x200, .i32⟩
  | 85 => ⟨S4096x200, .i1⟩
  | 86 => ⟨S_, .i32⟩
  | 87 => ⟨S4096x200, .i32⟩
  | 88 => ⟨S4096x200, .i32⟩
  | 89 => ⟨S4096x200, .i32⟩
  | 90 => ⟨S4096x200x1, .i32⟩
  | 91 => ⟨S1, .i32⟩
  | 92 => ⟨S_, .i32⟩
  | 93 => ⟨S4096x200x1, .i32⟩
  | 94 => ⟨S4096x200x1, .i1⟩
  | 95 => ⟨S1x1x1, .i32⟩
  | 96 => ⟨S4096x200x1, .i32⟩
  | 97 => ⟨S4096x200x1, .i1⟩
  | 98 => ⟨S4096x200x1, .i1⟩
  | 99 => ⟨S_, .i1⟩
  | 100 => ⟨S4096x200, .i1⟩
  | 101 => ⟨S4096x200x128, .f32⟩
  | 102 => ⟨S4096x200x128, .i1⟩
  | 103 => ⟨S_, .f32⟩
  | 104 => ⟨S4096x200x128, .f32⟩
  | 105 => ⟨S4096x200x128, .f32⟩
  | 106 => ⟨S4096x200x1, .i32⟩
  | 107 => ⟨S4096x200, .i32⟩
  | 108 => ⟨S_, .i32⟩
  | 109 => ⟨S4096x200, .i32⟩
  | 110 => ⟨S4096x200, .i1⟩
  | 111 => ⟨S_, .i32⟩
  | 112 => ⟨S4096x200, .i32⟩
  | 113 => ⟨S4096x200, .i32⟩
  | 114 => ⟨S4096x200, .i32⟩
  | 115 => ⟨S4096x200x1, .i32⟩
  | 116 => ⟨S1, .i32⟩
  | 117 => ⟨S_, .i32⟩
  | 118 => ⟨S4096x200x1, .i32⟩
  | 119 => ⟨S4096x200x1, .i1⟩
  | 120 => ⟨S1x1x1, .i32⟩
  | 121 => ⟨S4096x200x1, .i32⟩
  | 122 => ⟨S4096x200x1, .i1⟩
  | 123 => ⟨S4096x200x1, .i1⟩
  | 124 => ⟨S_, .i1⟩
  | 125 => ⟨S4096x200, .i1⟩
  | 126 => ⟨S4096x200x128, .f32⟩
  | 127 => ⟨S4096x200x128, .i1⟩
  | _ => ⟨S4096x200x5, .i32⟩

abbrev hbmTy0_1 (i : Nat) : BufTy := match i % 128 with
  | 0 => ⟨S_, .f32⟩
  | 1 => ⟨S4096x200x128, .f32⟩
  | 2 => ⟨S4096x200x128, .f32⟩
  | 3 => ⟨S4096x200x128, .f32⟩
  | 4 => ⟨S4096x200x128, .f32⟩
  | 5 => ⟨S4096x200x128, .f32⟩
  | 6 => ⟨S4096x200x128, .f32⟩
  | 7 => ⟨S128x4096x200, .f32⟩
  | _ => ⟨S4096x200x5, .i32⟩

abbrev hbmTy (i : Nat) : BufTy := match i / 128 with
  | 0 => hbmTy0_0 i
  | 1 => hbmTy0_1 i
  | _ => ⟨S4096x200x5, .i32⟩

abbrev bufTy : (tb : Table) → Fin (tcTables nBuf tb) → BufTy
  | .hbm, ⟨i, _⟩ => hbmTy i
  | _, _ => ⟨S4096x200x5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_call2_cst : Ref sig .tc := ⟨.hbm, 78, rfl⟩
abbrev main_call2_v15 : Ref sig .tc := ⟨.hbm, 79, rfl⟩
abbrev main_v8 : Ref sig .tc := ⟨.hbm, 80, rfl⟩
abbrev main_v9 : Ref sig .tc := ⟨.hbm, 81, rfl⟩
abbrev main_v10 : Ref sig .tc := ⟨.hbm, 82, rfl⟩
abbrev main_call3_c : Ref sig .tc := ⟨.hbm, 83, rfl⟩
abbrev main_call3_v0 : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_c_1 : Ref sig .tc := ⟨.hbm, 91, rfl⟩
abbrev main_call3_c_2 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_c_3 : Ref sig .tc := ⟨.hbm, 99, rfl⟩
abbrev main_call3_v12 : Ref sig .tc := ⟨.hbm, 100, rfl⟩
abbrev main_call3_v13 : Ref sig .tc := ⟨.hbm, 101, rfl⟩
abbrev main_call3_v14 : Ref sig .tc := ⟨.hbm, 102, rfl⟩
abbrev main_call3_cst : Ref sig .tc := ⟨.hbm, 103, rfl⟩
abbrev main_call3_v15 : Ref sig .tc := ⟨.hbm, 104, rfl⟩
abbrev main_v11 : Ref sig .tc := ⟨.hbm, 105, rfl⟩
abbrev main_v12 : Ref sig .tc := ⟨.hbm, 106, rfl⟩
abbrev main_v13 : Ref sig .tc := ⟨.hbm, 107, rfl⟩
abbrev main_call4_c : Ref sig .tc := ⟨.hbm, 108, rfl⟩
abbrev main_call4_v0 : Ref sig .tc := ⟨.hbm, 109, rfl⟩
abbrev main_call4_v1 : Ref sig .tc := ⟨.hbm, 110, rfl⟩
abbrev main_call4_c_0 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_v5 : Ref sig .tc := ⟨.hbm, 115, rfl⟩
abbrev main_call4_c_1 : Ref sig .tc := ⟨.hbm, 116, rfl⟩
abbrev main_call4_c_2 : Ref sig .tc := ⟨.hbm, 117, rfl⟩
abbrev main_call4_v6 : Ref sig .tc := ⟨.hbm, 118, rfl⟩
abbrev main_call4_v7 : Ref sig .tc := ⟨.hbm, 119, rfl⟩
abbrev main_call4_v8 : Ref sig .tc := ⟨.hbm, 120, rfl⟩
abbrev main_call4_v9 : Ref sig .tc := ⟨.hbm, 121, rfl⟩
abbrev main_call4_v10 : Ref sig .tc := ⟨.hbm, 122, rfl⟩
abbrev main_call4_v11 : Ref sig .tc := ⟨.hbm, 123, rfl⟩
abbrev main_call4_c_3 : Ref sig .tc := ⟨.hbm, 124, rfl⟩
abbrev main_call4_v12 : Ref sig .tc := ⟨.hbm, 125, rfl⟩
abbrev main_call4_v13 : Ref sig .tc := ⟨.hbm, 126, rfl⟩
abbrev main_call4_v14 : Ref sig .tc := ⟨.hbm, 127, rfl⟩
abbrev main_call4_cst : Ref sig .tc := ⟨.hbm, 128, rfl⟩
abbrev main_call4_v15 : Ref sig .tc := ⟨.hbm, 129, rfl⟩
abbrev main_v14 : Ref sig .tc := ⟨.hbm, 130, rfl⟩
abbrev main_v15 : Ref sig .tc := ⟨.hbm, 131, rfl⟩
abbrev main_v16 : Ref sig .tc := ⟨.hbm, 132, rfl⟩
abbrev main_v17 : Ref sig .tc := ⟨.hbm, 133, rfl⟩
abbrev main_v18 : Ref sig .tc := ⟨.hbm, 134, rfl⟩
abbrev main_v19 : Ref sig .tc := ⟨.hbm, 135, rfl⟩

abbrev nD : Nat := 1
abbrev τ : Topo := Topo.v7x

variable {F : FTy → Type} [FloatOps F]
-- ==== Proof.Spec.lean ====
module

public import Idealize.ShloMosaic.Lib.Pointwise

@[expose] public section

/-! # The embedding sum

What both programs compute, as one function of the index array and the five tables: at feature `d`, batch row `b` and
position `l`, the sum of the five table rows which the five codes at `(b, l)` name. -/

noncomputable section

namespace Cert.Proof

open Idealize.ShloMosaic

/-- Row `w` of a table of `N` rows, `w` brought below `N`. -/
def row (N : Nat) [NeZero N] (w : BitVec 32) : Fin N := Fin.ofNat N w.toNat

/-- A row number below the number of rows is itself. -/
theorem row_val (N : Nat) [NeZero N] (w : BitVec 32) (h : w.toNat < N) : (row N w).val = w.toNat :=
  Nat.mod_eq_of_lt h

/-- The sum of the five looked-up rows at feature `d`, in the order hour, weekday, day, month, minute. -/
def embed (x : IVec (⟨3, ![4096, 200, 5]⟩ : Shape) 32) (minute : FVec Ideal (⟨2, ![4, 128]⟩ : Shape) .f32)
    (hour : FVec Ideal (⟨2, ![24, 128]⟩ : Shape) .f32) (weekday : FVec Ideal (⟨2, ![7, 128]⟩ : Shape) .f32)
    (day : FVec Ideal (⟨2, ![32, 128]⟩ : Shape) .f32) (month : FVec Ideal (⟨2, ![13, 128]⟩ : Shape) .f32)
    (d : Fin 128) (b : Fin 4096) (l : Fin 200) : EReal :=
  hour (ix2 (row 24 (x (ix3 b l 3))) d) + weekday (ix2 (row 7 (x (ix3 b l 2))) d) + day (ix2 (row 32 (x (ix3 b l 1))) d)
    + month (ix2 (row 13 (x (ix3 b l 0))) d) + minute (ix2 (row 4 (x (ix3 b l 4))) d)

end Cert.Proof

end
-- ==== Proof.Rows.lean ====
module

public import proofs.«01_k».proof.Proof.Gen.KernelIdeal.Frame
public import Idealize.ShloMosaic.Lib.Pipeline.ValueKit
public import Idealize.ShloMosaic.Lib.Pointwise
public import proofs.«01_k».proof.Proof.Spec

@[expose] public section

/-! # The block that one grid point stores, row by row

A grid point stores 128 rows, one for each batch row of its block, and every row is the same expression of the row's
number: the sum of two products of a table with an array of zeros and ones. This module writes that expression once,
for a row number that is a variable, and reads the whole block at an index. -/

set_option maxRecDepth 16384

noncomputable section

namespace Cert.Proof

open Idealize.ShloMosaic Idealize.ShloMosaic.TcCoe Idealize.SL.Sem
open Cert.KernelIdeal Cert.KernelIdeal.Gen

/-- Every row number below 128 is a row of the code arrays. -/
theorem code_slice (b : Nat) (hb : b < 128) : S128x200.Slices ![b, 0] S1x200 := by
  refine ⟨rfl, fun a => ?_⟩
  match a with
  | ⟨0, _⟩ => exact hb
  | ⟨1, _⟩ => exact Nat.le_refl 200

/-- Every row number below 128 is a row of the stored block. -/
theorem row_inb (b : Nat) (hb : b < 128) : ∀ a, (![0, b, 0] : Fin 3 → Nat) a + S128x1x200.size a ≤ S128x128x200.size a := by
  intro a
  match a with
  | ⟨0, _⟩ => exact Nat.le_refl 128
  | ⟨1, _⟩ => exact hb
  | ⟨2, _⟩ => exact Nat.le_refl 200

/-- The row `b` that a grid point stores, from the two code arrays and the two combined tables. -/
def stored (b : Nat) (hb : b < 128) (hi lo : IVec S128x200 32) (wh : FVec Ideal S64x128 .f32) (wl : FVec Ideal S16x128 .f32) :
    FVec Ideal S128x1x200 .f32 :=
  shapeCast S128x1x200
    (addf
      (matmul dot_S64x128_S64x200_S128x200_0_0_1_1_n_n none (shapeCast S64x128 wh shapeCasts_S64x128_S64x128)
        (sitofp .f32 (extui 32 (cmpi .eq (iota .tc S64x200 32 [0] iota_S64x200_d0_w32)
          (broadcastTo S64x200 (extractStridedSlice S1x200 ![b, 0] hi (code_slice b hb)) broadcasts_S1x200_S64x200)) natLt_1_32))
        (constant S128x200 .f32 0x00000000#32))
      (matmul dot_S16x128_S16x200_S128x200_0_0_1_1_n_n none (shapeCast S16x128 wl shapeCasts_S16x128_S16x128)
        (sitofp .f32 (extui 32 (cmpi .eq (iota .tc S16x200 32 [0] iota_S16x200_d0_w32)
          (broadcastTo S16x200 (extractStridedSlice S1x200 ![b, 0] lo (code_slice b hb)) broadcasts_S1x200_S16x200)) natLt_1_32))
        (constant S128x200 .f32 0x00000000#32)))
    shapeCasts_S128x200_S128x1x200

/-- The stores of the first `n` rows, the last row first. -/
def stores (hi lo : IVec S128x200 32) (wh : FVec Ideal S64x128 .f32) (wl : FVec Ideal S16x128 .f32) :
    (n : Nat) → n ≤ 128 → List (View.Piece (Elt Ideal) S128x128x200 .f32)
  | 0, _ => []
  | n + 1, h => ⟨Rect.unit (s := S128x128x200) ![0, n, 0] S128x1x200.size (row_inb n h), stored n h hi lo wh wl⟩
      :: stores hi lo wh wl n (Nat.le_of_succ_le h)

/-- What a grid point leaves in the output's staging buffer is the stores of 128 rows. -/
theorem out_eq (x0 : Vec Ideal S128x1000 .i32) (x1 : Vec Ideal S1000x200 .bf16) (x2 : Vec Ideal S1000x200 .bf16)
    (x3 : Vec Ideal S64x128 .f32) (x4 : Vec Ideal S16x128 .f32) :
    out0_5 x0 x1 x2 x3 x4 = View.canon (stores (k0_pay3 (View.ld x0 r0_0) (View.ld x1 r0_1))
      (k0_pay4 (View.ld x0 r0_0) (View.ld x2 r0_1)) (View.ld x3 r0_2) (View.ld x4 r0_3) 128 (Nat.le_refl 128)) := by
  unfold out0_5
  rfl

/-- A comparison of two words, taken to a float, is one where they are equal and zero elsewhere. -/
theorem same_float (u w : BitVec 32) :
    (FloatOps.sitofp (F := Ideal) FTy.f32 (BitVec.setWidth 32 (IntOp.cmpi CmpIPredicate.eq u w)) : EReal)
      = if u = w then 1 else 0 := by
  have hs : ∀ v : BitVec 32, (FloatOps.sitofp (F := Ideal) FTy.f32 v : EReal) = ((v.toInt : ℝ) : EReal) := fun _ => rfl
  rw [hs]
  by_cases h : u = w
  · subst h
    rw [if_pos rfl]
    simp [IntOp.cmpi]
  · rw [if_neg h]
    simp [IntOp.cmpi, beq_eq_false_iff_ne.mpr h]

/-- The sum of a function times the comparison of its argument with a word below the bound is the function at the word. -/
theorem sum_same (N : Nat) [NeZero N] (hN : N ≤ 2 ^ 32) (f : Fin N → EReal) (w : BitVec 32) (hw : w.toNat < N) :
    ∑ v : Fin N, f v * (FloatOps.sitofp (F := Ideal) FTy.f32
      (BitVec.setWidth 32 (IntOp.cmpi CmpIPredicate.eq (BitVec.ofNat 32 v.val) w)) : EReal) = f (row N w) := by
  rw [Finset.sum_eq_single (row N w)]
  · rw [same_float, if_pos, mul_one]
    rw [row_val N w hw, BitVec.ofNat_toNat, BitVec.setWidth_eq]
  · intro v _ hv
    rw [same_float, if_neg, mul_zero]
    intro he
    apply hv
    apply Fin.ext
    rw [row_val N w hw, ← he, BitVec.toNat_ofNat, Nat.mod_eq_of_lt (Nat.lt_of_lt_of_le v.isLt hN)]
  · intro h
    exact absurd (Finset.mem_univ _) h

/-- The stored row at an index is the sum of the two combined tables at the rows that the two codes name, when the codes
are below the tables' heights. -/
theorem stored_apply (b d : Fin 128) (l : Fin 200) (hi lo : IVec S128x200 32) (wh : FVec Ideal S64x128 .f32)
    (wl : FVec Ideal S16x128 .f32) (hh : (hi (ix2 b l)).toNat < 64) (hl : (lo (ix2 b l)).toNat < 16) :
    stored b.val b.isLt hi lo wh wl (ix3 d 0 l)
      = wh (ix2 (row 64 (hi (ix2 b l))) d) + wl (ix2 (row 16 (lo (ix2 b l))) d) := by
  refine Eq.trans ?_ (congrArg₂ (· + ·) (sum_same 64 (by decide) (fun v => wh (ix2 v d)) _ hh)
    (sum_same 16 (by decide) (fun v => wl (ix2 v d)) _ hl))
  pointwise [stored]

/-- Each of the stores is the store of one row. -/
theorem mem_stores (hi lo : IVec S128x200 32) (wh : FVec Ideal S64x128 .f32) (wl : FVec Ideal S16x128 .f32) :
    ∀ (n : Nat) (h : n ≤ 128), ∀ p ∈ stores hi lo wh wl n h, ∃ (b : Nat) (hb : b < 128),
      p = ⟨Rect.unit (s := S128x128x200) ![0, b, 0] S128x1x200.size (row_inb b hb), stored b hb hi lo wh wl⟩
  | 0, _, _, hp => by cases hp
  | n + 1, h, p, hp => by
    rcases List.mem_cons.mp hp with rfl | hp'
    · exact ⟨n, h, rfl⟩
    · exact mem_stores hi lo wh wl n (Nat.le_of_succ_le h) p hp'

/-- Every row below the number of stores is stored. -/
theorem stores_mem (hi lo : IVec S128x200 32) (wh : FVec Ideal S64x128 .f32) (wl : FVec Ideal S16x128 .f32) (b : Nat) (hb : b < 128) :
    ∀ (n : Nat) (h : n ≤ 128), b < n →
      (⟨Rect.unit (s := S128x128x200) ![0, b, 0] S128x1x200.size (row_inb b hb), stored b hb hi lo wh wl⟩ :
        View.Piece (Elt Ideal) S128x128x200 .f32) ∈ stores hi lo wh wl n h
  | 0, _, hlt => absurd hlt (Nat.not_lt_zero b)
  | n + 1, h, hlt => by
    rcases Nat.lt_succ_iff_lt_or_eq.mp hlt with h' | h'
    · exact List.mem_cons_of_mem _ (stores_mem hi lo wh wl b hb n (Nat.le_of_succ_le h) h')
    · subst h'
      exact List.mem_cons_self

/-- Index `(d, 0, l)` of the row `b` is the index `(d, b, l)` of the block. -/
theorem row_emb (b d : Fin 128) (l : Fin 200) :
    (Rect.unit (s := S128x128x200) ![0, b.val, 0] S128x1x200.size (row_inb b.val b.isLt)).emb
      (ix3 d 0 l : S128x1x200.Idx) = (ix3 d b l : S128x128x200.Idx) := by
  funext a
  apply Fin.ext
  rw [ValueKit.rect_emb_unit_val]
  match a with
  | ⟨0, _⟩ => exact Nat.zero_add _
  | ⟨1, _⟩ => exact Nat.add_zero _
  | ⟨2, _⟩ => exact Nat.zero_add _

/-- The block that a grid point leaves, at an index: the sum of the two combined tables at the rows that the two codes
of its batch row and column name. -/
theorem out_apply (x0 : Vec Ideal S128x1000 .i32) (x1 : Vec Ideal S1000x200 .bf16) (x2 : Vec Ideal S1000x200 .bf16)
    (x3 : Vec Ideal S64x128 .f32) (x4 : Vec Ideal S16x128 .f32) (hi lo : IVec S128x200 32)
    (ehi : k0_pay3 (View.ld x0 r0_0) (View.ld x1 r0_1) = hi) (elo : k0_pay4 (View.ld x0 r0_0) (View.ld x2 r0_1) = lo)
    (hh : ∀ i, (hi i).toNat < 64) (hl : ∀ i, (lo i).toNat < 16) (d b : Fin 128) (l : Fin 200) :
    out0_5 x0 x1 x2 x3 x4 (ix3 d b l)
      = (View.ld x3 r0_2 : FVec Ideal S64x128 .f32) (ix2 (row 64 (hi (ix2 b l))) d)
        + (View.ld x4 r0_3 : FVec Ideal S16x128 .f32) (ix2 (row 16 (lo (ix2 b l))) d) := by
  rw [out_eq, ehi, elo]
  refine View.canon_apply_of_pieces (fun i : S128x128x200.Idx =>
    ((View.ld x3 r0_2 : FVec Ideal S64x128 .f32) (ix2 (row 64 (hi (ix2 (i 1 : Fin 128) (i 2 : Fin 200)))) (i 0 : Fin 128))
      + (View.ld x4 r0_3 : FVec Ideal S16x128 .f32) (ix2 (row 16 (lo (ix2 (i 1 : Fin 128) (i 2 : Fin 200)))) (i 0 : Fin 128)) : EReal))
    _ ?_ (ix3 d b l) ⟨_, stores_mem _ _ _ _ b.val b.isLt 128 (Nat.le_refl 128) b.isLt, ?_⟩
  · intro p hp x
    obtain ⟨b', hb', rfl⟩ := mem_stores _ _ _ _ _ _ p hp
    obtain ⟨d', z, l', rfl⟩ : ∃ (d' : Fin 128) (z : Fin 1) (l' : Fin 200), x = (ix3 d' z l' : S128x1x200.Idx) := by
      refine ⟨x 0, x 1, x 2, funext fun a => ?_⟩
      match a with
      | ⟨0, _⟩ => rfl
      | ⟨1, _⟩ => rfl
      | ⟨2, _⟩ => rfl
    have hz : z = 0 := Subsingleton.elim _ _
    subst hz
    refine (stored_apply ⟨b', hb'⟩ d' l' hi lo _ _ (hh _) (hl _)).trans ?_
    rw [row_emb ⟨b', hb'⟩ d' l']
    rfl
  · rw [Rect.mem_set_unit]
    intro a
    match a with
    | ⟨0, _⟩ => exact ⟨Nat.zero_le _, d.isLt⟩
    | ⟨1, _⟩ => exact ⟨Nat.le_refl _, Nat.lt_succ_self _⟩
    | ⟨2, _⟩ => exact ⟨Nat.zero_le _, l.isLt⟩

end Cert.Proof

end
-- ==== Proof.Pick.lean ====
module

public import Idealize.ShloMosaic.PureOps

@[expose] public section

/-! # A table stored by digits

The constant array of the kernel's program is stored as a tree of case distinctions on the base-128 digits of the
row-major position. `pick` is one such case distinction with its number of cases a variable, and `digits` is a whole
tree for 200000 entries whose entry at position `i` is a given function of `i`. -/

namespace Cert.Proof

/-- The value of `g` at `x` when `x` is one of the `m` numbers from `k` on, and `d` otherwise, found by comparing `x`
    with each of those numbers in turn. -/
def pick {α : Type} (d : α) (x : Nat) (g : Nat → α) : Nat → Nat → α
  | 0, _ => d
  | m + 1, k => dite (x = k) (fun h => Eq.ndrec_symm (motive := fun _ => α) (g k) h) (fun _ => pick d x g m (k + 1))

/-- At a number among the `m` from `k` on, `pick` is `g` there. -/
theorem pick_eq {α : Type} (d : α) (x : Nat) (g : Nat → α) : ∀ m k : Nat, k ≤ x → x < k + m → pick d x g m k = g x
  | 0, k, h, h' => absurd h' (by omega)
  | m + 1, k, h, h' => by
    unfold pick
    by_cases e : x = k
    · subst e
      rw [dif_pos rfl]
    · rw [dif_neg e]
      exact pick_eq d x g m (k + 1) (by omega) (by omega)

/-- The part of the tree below leading digit `a`: the middle digit has 128 values, of which the last leading digit, 12,
    has only the first 27, and the final digit has 128 values, of which the last pair, 12 and 26, has only the first 64. -/
def branch (f : Nat → BitVec 16) (a i : Nat) : BitVec 16 :=
  pick 0#16 (i / 128 % 128) (fun b => pick 0#16 (i % 128)
    (fun c => f (a * 16384 + b * 128 + c)) (bif Nat.beq (a * 128 + b) 1562 then 64 else 128) 0)
    (bif Nat.beq a 12 then 27 else 128) 0

/-- The tree for 200000 entries, whose leading digit has 13 values. -/
def digits (f : Nat → BitVec 16) (i : Nat) : BitVec 16 :=
  pick 0#16 (i / 16384) (fun a => branch f a i) 13 0

/-- The tree's entry at a position below 200000 is the given function of that position. -/
theorem digits_eq (f : Nat → BitVec 16) (i : Nat) (hi : i < 200000) : digits f i = f i := by
  unfold digits
  rw [pick_eq _ _ _ _ _ (Nat.zero_le _) (by omega)]
  unfold branch
  rw [pick_eq _ _ _ _ _ (Nat.zero_le _) ?_, pick_eq _ _ _ _ _ (Nat.zero_le _) ?_]
  · congr 1
    omega
  · rcases hb : Nat.beq (i / 16384 * 128 + i / 128 % 128) 1562 with _ | _
    · simp only [cond_false]
      omega
    · have := Nat.eq_of_beq_eq_true hb
      simp only [cond_true]
      omega
  · rcases hb : Nat.beq (i / 16384) 12 with _ | _
    · simp only [cond_false]
      omega
    · have := Nat.eq_of_beq_eq_true hb
      simp only [cond_true]
      omega

/-- Entry `i` of a 1000 × 200 array that holds in row `5 n + t` and column `n` the `t`-th of five given words, and 0 in
    every other place. -/
def strided (w : Nat → Nat) (i : Nat) : BitVec 16 :=
  BitVec.ofNat 16 (bif Nat.beq (i / 1000) (i % 200) then w (i / 200 % 5) else 0)

/-- The five words of the first array of weights, the constant one: 16, 4 and 1 as bf16 words, then 0 twice. -/
def hiWord (t : Nat) : Nat :=
  bif Nat.beq t 0 then 0x4180 else bif Nat.beq t 1 then 0x4080 else bif Nat.beq t 2 then 0x3F80 else 0

/-- The five words of the second array of weights, the computed one: 0 three times, then 4 and 1 as bf16 words. -/
def loWord (t : Nat) : Nat :=
  bif Nat.beq t 3 then 0x4080 else bif Nat.beq t 4 then 0x3F80 else 0

end Cert.Proof
-- ==== Proof.Codes.lean ====
module

public import proofs.«01_k».proof.Proof.Gen.KernelIdeal.Frame
public import Idealize.ShloMosaic.Lib.Pipeline.ValueKit
public import Idealize.ShloMosaic.Lib.Pointwise
public import proofs.«01_k».proof.Proof.Pick

@[expose] public section

/-! # The two codes of an index

The kernel multiplies the block of indices, five numbers to a position, by two arrays that hold five weights at each
position and zeros elsewhere. The products are whole numbers below 64 and below 16, so their conversion to a word is
exact. -/

set_option maxRecDepth 16384

noncomputable section

namespace Cert.Proof

open Idealize.ShloMosaic Idealize.ShloMosaic.TcCoe Idealize.SL.Sem
open Cert.KernelIdeal Cert.KernelIdeal.Gen

/-- The row in which the number `t` of position `l` lies. -/
def slot (l : Fin 200) (t : Fin 5) : Fin 1000 := ⟨t.val + 5 * l.val, by omega⟩

/-- A sum over the 1000 rows in which only the five rows of one position count. -/
theorem sum_slot (l : Fin 200) (g : Fin 1000 → EReal) (h : ∀ k : Fin 1000, k.val / 5 ≠ l.val → g k = 0) :
    ∑ k, g k = ∑ t : Fin 5, g (slot l t) := by
  have e : ∑ k, g k = ∑ p : Fin 200 × Fin 5, g (slot p.1 p.2) :=
    (Equiv.sum_comp (finProdFinEquiv : Fin 200 × Fin 5 ≃ Fin (200 * 5)) g).symm
  rw [e, Fintype.sum_prod_type, Finset.sum_eq_single l]
  · intro n _ hn
    refine Finset.sum_eq_zero fun t _ => h _ ?_
    intro he
    apply hn
    apply Fin.ext
    rw [← he]
    show n.val = (t.val + 5 * n.val) / 5
    omega
  · intro hl
    exact absurd (Finset.mem_univ _) hl

/-- The array of weights with the five given words. -/
def weight (word : Nat → Nat) : FVec Ideal S1000x200 .bf16 :=
  fun i => FloatOps.ofBits .bf16 (strided word (S1000x200.rowMajor i).val)

/-- A weight by its row and column. -/
theorem weight_apply (word : Nat → Nat) (k : Fin 1000) (l : Fin 200) :
    weight word (ix2 k l) = Ideal.ofBits .bf16 (strided word (k.val * 200 + l.val)) := by
  show Ideal.ofBits .bf16 (strided word (S1000x200.rowMajor (ix2 k l)).val) = _
  exact congrArg (fun i => Ideal.ofBits .bf16 (strided word i)) (Shape.rowMajor_val_two (ix2 k l))

/-- A weight in the row of position `n` is zero in every column but `n`. -/
theorem weight_off (word : Nat → Nat) (k : Fin 1000) (l : Fin 200) (h : k.val / 5 ≠ l.val) : weight word (ix2 k l) = 0 := by
  have h1 : (k.val * 200 + l.val) / 1000 = k.val / 5 := by omega
  have h2 : (k.val * 200 + l.val) % 200 = l.val := by omega
  have h3 : Nat.beq (k.val / 5) l.val = false := by
    rw [← Bool.not_eq_true, Nat.beq_eq]
    exact h
  rw [weight_apply, strided, h1, h2, h3]
  exact Ideal.ofBits_zero_bf16

/-- The weights of a position in its own column. -/
theorem weight_on (word : Nat → Nat) (l : Fin 200) (t : Fin 5) :
    weight word (ix2 (slot l t) l) = Ideal.ofBits .bf16 (BitVec.ofNat 16 (word t.val)) := by
  have h0 : (slot l t).val = t.val + 5 * l.val := rfl
  have h1 : ((slot l t).val * 200 + l.val) / 1000 = l.val := by omega
  have h2 : ((slot l t).val * 200 + l.val) % 200 = l.val := by omega
  have h3 : ((slot l t).val * 200 + l.val) / 200 % 5 = t.val := by omega
  rw [weight_apply, strided, h1, h2, h3, Nat.beq_refl]
  rfl

/-- The product of the indices with the weights, as a sum of five terms. -/
theorem product_apply (word : Nat → Nat) (v : Vec Ideal S128x1000 .i32) (b : Fin 128) (l : Fin 200) :
    matmul dot_S128x1000_S1000x200_S128x200_1_0_0_1_n_n none (k0_pay2 (F := Ideal) v) (weight word)
        (constant S128x200 .f32 0x00000000#32) (ix2 b l)
      = ∑ t : Fin 5, ((v (ix2 b (slot l t))).toInt : ℝ) * Ideal.ofBits .bf16 (BitVec.ofNat 16 (word t.val)) := by
  refine Eq.trans ?_ ((sum_slot l (fun k => (((v (ix2 b k)).toInt : ℝ) : EReal) * (weight word (ix2 k l) : EReal)) ?_).trans ?_)
  · pointwise [k0_pay2]
    rfl
  · intro k hk
    show _ * _ = _
    rw [weight_off word k l hk]
    exact mul_zero _
  · refine Finset.sum_congr rfl fun t _ => ?_
    rw [weight_on]

/-- The bf16 word of sixteen. -/
theorem sixteen : Ideal.ofBits .bf16 0x4180#16 = ((16 : ℝ) : EReal) := by
  simp [Ideal.ofBits, Ideal.ieee, -EReal.coe_mul]; norm_num

/-- The bf16 word of four. -/
theorem four : Ideal.ofBits .bf16 0x4080#16 = ((4 : ℝ) : EReal) := by
  simp [Ideal.ofBits, Ideal.ieee, -EReal.coe_mul]; norm_num

/-- A small whole number converts to its word. -/
theorem word_of_nat (n : Nat) (h : n < 64) : FloatOps.fptosi (F := Ideal) (φ := .f32) 32 (((n : ℝ) : EReal)) = BitVec.ofNat 32 n := by
  show BitVec.ofInt 32 (Ideal.toIntClamped (-(2 ^ (32 - 1) : Nat)) ((2 ^ (32 - 1) : Nat) - 1) ((n : ℝ) : EReal)) = _
  rw [Ideal.toIntClamped_coe, if_pos (Nat.cast_nonneg n), Int.floor_natCast, min_eq_right, max_eq_right]
  · exact BitVec.ofInt_natCast 32 n
  · omega
  · norm_num
    omega

/-- A word below 4 is read as the same number with or without a sign. -/
theorem small_toInt (w : BitVec 32) (h : w.toNat < 4) : ((w.toInt : ℝ)) = (w.toNat : ℝ) := by
  rw [BitVec.toInt_eq_toNat_of_lt (by omega)]
  exact Int.cast_natCast _

/-- The code of the first three numbers of a position. -/
theorem hi_code (v : Vec Ideal S128x1000 .i32) (b : Fin 128) (l : Fin 200) (x0 x1 x2 x3 x4 : BitVec 32)
    (e0 : v (ix2 b (slot l 0)) = x0) (e1 : v (ix2 b (slot l 1)) = x1) (e2 : v (ix2 b (slot l 2)) = x2)
    (e3 : v (ix2 b (slot l 3)) = x3) (e4 : v (ix2 b (slot l 4)) = x4) (h0 : x0.toNat < 4) (h1 : x1.toNat < 4) (h2 : x2.toNat < 4) :
    k0_pay3 (F := Ideal) v (weight hiWord) (ix2 b l) = BitVec.ofNat 32 (16 * x0.toNat + 4 * x1.toNat + x2.toNat) := by
  refine Eq.trans ?_ (word_of_nat (16 * x0.toNat + 4 * x1.toNat + x2.toNat) (by omega))
  show FloatOps.fptosi (F := Ideal) (φ := .f32) 32 (matmul dot_S128x1000_S1000x200_S128x200_1_0_0_1_n_n none (k0_pay2 (F := Ideal) v) (weight hiWord)
        (constant S128x200 .f32 0x00000000#32) (ix2 b l)) = _
  rw [product_apply, Fin.sum_univ_five, e0, e1, e2, e3, e4]
  congr 1
  show (x0.toInt : ℝ) * Ideal.ofBits .bf16 0x4180#16 + (x1.toInt : ℝ) * Ideal.ofBits .bf16 0x4080#16
    + (x2.toInt : ℝ) * Ideal.ofBits .bf16 0x3F80#16 + (x3.toInt : ℝ) * Ideal.ofBits .bf16 0x0000#16
    + (x4.toInt : ℝ) * Ideal.ofBits .bf16 0x0000#16 = (_ : EReal)
  rw [sixteen, four, Ideal.ofBits_one_bf16, Ideal.ofBits_zero_bf16, mul_zero, mul_zero, mul_one, add_zero, add_zero,
    small_toInt x0 h0, small_toInt x1 h1, small_toInt x2 h2, ← EReal.coe_mul, ← EReal.coe_mul, ← EReal.coe_add, ← EReal.coe_add]
  congr 1
  push_cast
  ring

/-- The code of the last two numbers of a position. -/
theorem lo_code (v : Vec Ideal S128x1000 .i32) (b : Fin 128) (l : Fin 200) (x0 x1 x2 x3 x4 : BitVec 32)
    (e0 : v (ix2 b (slot l 0)) = x0) (e1 : v (ix2 b (slot l 1)) = x1) (e2 : v (ix2 b (slot l 2)) = x2)
    (e3 : v (ix2 b (slot l 3)) = x3) (e4 : v (ix2 b (slot l 4)) = x4) (h3 : x3.toNat < 4) (h4 : x4.toNat < 4) :
    k0_pay4 (F := Ideal) v (weight loWord) (ix2 b l) = BitVec.ofNat 32 (4 * x3.toNat + x4.toNat) := by
  refine Eq.trans ?_ (word_of_nat (4 * x3.toNat + x4.toNat) (by omega))
  show FloatOps.fptosi (F := Ideal) (φ := .f32) 32 (matmul dot_S128x1000_S1000x200_S128x200_1_0_0_1_n_n none (k0_pay2 (F := Ideal) v)
        (shapeCast S1000x200 (weight loWord) shapeCasts_S1000x200_S1000x200) (constant S128x200 .f32 0x00000000#32) (ix2 b l)) = _
  rw [shapeCast_self, product_apply, Fin.sum_univ_five, e0, e1, e2, e3, e4]
  congr 1
  show (x0.toInt : ℝ) * Ideal.ofBits .bf16 0x0000#16 + (x1.toInt : ℝ) * Ideal.ofBits .bf16 0x0000#16
    + (x2.toInt : ℝ) * Ideal.ofBits .bf16 0x0000#16 + (x3.toInt : ℝ) * Ideal.ofBits .bf16 0x4080#16
    + (x4.toInt : ℝ) * Ideal.ofBits .bf16 0x3F80#16 = (_ : EReal)
  rw [four, Ideal.ofBits_one_bf16, Ideal.ofBits_zero_bf16, mul_zero, mul_zero, mul_zero, mul_one, add_zero, add_zero, zero_add,
    small_toInt x3 h3, small_toInt x4 h4, ← EReal.coe_mul, ← EReal.coe_add]
  congr 1
  push_cast
  ring

end Cert.Proof

end
-- ==== Proof.HostTables.lean ====
module

public import proofs.«01_k».proof.Proof.Gen.KernelIdeal.Frame
public import Idealize.ShloMosaic.Lib.Claim
public import Idealize.ShloMosaic.Lib.Pipeline.ValueKit
public import Idealize.ShloMosaic.Lib.Pointwise
public import proofs.«01_k».proof.Proof.Codes
public import proofs.«01_k».proof.Proof.Spec

@[expose] public section

/-! # What the kernel's blocks are cut from

The arrays that stand before the kernel when it starts: the indices laid out in rows of 1000, the two arrays of
weights, and the two combined tables. -/

set_option maxRecDepth 16384

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ)

/-- The constant array: the first array of weights. -/
theorem entry_cst (c : Dev nD) : V m c main_cst = fun i => FloatOps.ofBits (F := Ideal) .bf16 (lit0 (S1000x200.rowMajor i)) := by
  entry_read
  rfl

/-- The f32 word of four. -/
theorem four_f32 : Ideal.ofBits .f32 0x40800000#32 = ((4 : ℝ) : EReal) := by
  simp [Ideal.ofBits, Ideal.ieee, -EReal.coe_mul]; norm_num

/-- A row number compared with a row of a position: whether the two numbers are the same. -/
theorem same_row (k : Fin 1000) (l : Fin 200) (t : Nat) (ht : t < 5) :
    IntOp.cmpi CmpIPredicate.eq (BitVec.ofNat 32 k.val) (BitVec.ofNat 32 l.val * 5#32 + BitVec.ofNat 32 t) = 1#1 ↔ k.val = 5 * l.val + t := by
  have e : BitVec.ofNat 32 l.val * 5#32 + BitVec.ofNat 32 t = BitVec.ofNat 32 (5 * l.val + t) := by
    apply BitVec.eq_of_toNat_eq
    simp only [BitVec.toNat_add, BitVec.toNat_mul, BitVec.toNat_ofNat]
    omega
  rw [e]
  by_cases h : k.val = 5 * l.val + t
  · rw [h]
    simp [IntOp.cmpi]
  · have hne : BitVec.ofNat 32 k.val ≠ BitVec.ofNat 32 (5 * l.val + t) := by
      intro he
      apply h
      have := congrArg BitVec.toNat he
      simp only [BitVec.toNat_ofNat] at this
      omega
    simp [IntOp.cmpi, beq_eq_false_iff_ne.mpr hne, h]

/-- The second array of weights, entry by entry: 4 and 1 in the last two rows of each position. -/
theorem entry_v38_apply (c : Dev nD) (k : Fin 1000) (l : Fin 200) :
    (V m c main_v38 : FVec Ideal S1000x200 .bf16) (ix2 k l)
      = if k.val = 5 * l.val + 4 then (1 : EReal) else if k.val = 5 * l.val + 3 then ((4 : ℝ) : EReal) else 0 := by
  have e4 := same_row k l 4 (by omega)
  have e3 := same_row k l 3 (by omega)
  entry_read
  pointwise
  show (if IntOp.cmpi CmpIPredicate.eq (BitVec.ofNat 32 k.val) (BitVec.ofNat 32 l.val * 5#32 + BitVec.ofNat 32 4) = 1#1 then (1 : EReal)
    else if IntOp.cmpi CmpIPredicate.eq (BitVec.ofNat 32 k.val) (BitVec.ofNat 32 l.val * 5#32 + BitVec.ofNat 32 3) = 1#1
      then Ideal.ofBits .f32 0x40800000#32 else 0) = _
  simp only [e4, e3, four_f32]

/-- The second array of weights is the array with the second five words. -/
theorem entry_v38 (c : Dev nD) : V m c main_v38 = weight loWord := by
  funext i
  obtain ⟨k, l, rfl⟩ : ∃ (k : Fin 1000) (l : Fin 200), i = (ix2 k l : S1000x200.Idx) := by
    refine ⟨i 0, i 1, funext fun a => ?_⟩
    match a with
    | ⟨0, _⟩ => rfl
    | ⟨1, _⟩ => rfl
  refine (entry_v38_apply m c k l).trans ?_
  by_cases h : k.val / 5 = l.val
  · obtain ⟨t, rfl⟩ : ∃ t : Fin 5, k = slot l t := ⟨⟨k.val % 5, by omega⟩, Fin.ext (by show k.val = k.val % 5 + 5 * l.val; omega)⟩
    rw [weight_on]
    have hk : (slot l t).val = t.val + 5 * l.val := rfl
    rw [hk]
    match t with
    | ⟨0, _⟩ =>
      rw [if_neg (show ¬(0 + 5 * l.val = _) by omega), if_neg (show ¬(0 + 5 * l.val = _) by omega)]
      exact Ideal.ofBits_zero_bf16.symm
    | ⟨1, _⟩ =>
      rw [if_neg (show ¬(1 + 5 * l.val = _) by omega), if_neg (show ¬(1 + 5 * l.val = _) by omega)]
      exact Ideal.ofBits_zero_bf16.symm
    | ⟨2, _⟩ =>
      rw [if_neg (show ¬(2 + 5 * l.val = _) by omega), if_neg (show ¬(2 + 5 * l.val = _) by omega)]
      exact Ideal.ofBits_zero_bf16.symm
    | ⟨3, _⟩ =>
      rw [if_neg (show ¬(3 + 5 * l.val = _) by omega), if_pos (show 3 + 5 * l.val = _ by omega)]
      exact four.symm
    | ⟨4, _⟩ =>
      rw [if_pos (show 4 + 5 * l.val = _ by omega)]
      exact Ideal.ofBits_one_bf16.symm
  · rw [weight_off loWord k l h, if_neg (by omega), if_neg (by omega)]

/-- The indices of one batch row, laid out in one row of 1000. -/
theorem entry_v37 (c : Dev nD) (b : Fin 4096) (l : Fin 200) (t : Fin 5) :
    V m c main_v37 (ix2 b (slot l t)) = m ((c : Thread nD τ).loc main_arg0) (ix3 b l t) := by
  entry_read
  pointwise
  refine congrArg (m (c, Proc.tc.devRef main_arg0)) (congrArg₂ (ix3 b) (Fin.ext ?_) (Fin.ext ?_))
  · show (t.val + 5 * l.val) / 5 = l.val
    omega
  · show (t.val + 5 * l.val) % 5 = t.val
    omega

/-- The first combined table at the code of three small words: the sum of the three rows that they name. -/
theorem entry_v12 (c : Dev nD) (month : FVec Ideal S13x128 .f32) (day : FVec Ideal S32x128 .f32) (weekday : FVec Ideal S7x128 .f32)
    (e5 : m ((c : Thread nD τ).loc main_arg5) = month) (e4 : m ((c : Thread nD τ).loc main_arg4) = day)
    (e3 : m ((c : Thread nD τ).loc main_arg3) = weekday) (x0 x1 x2 : BitVec 32) (h0 : x0.toNat < 4) (h1 : x1.toNat < 4) (h2 : x2.toNat < 4) (d : Fin 128) :
    (V m c main_v12 : FVec Ideal S64x128 .f32) (ix2 (row 64 (BitVec.ofNat 32 (16 * x0.toNat + 4 * x1.toNat + x2.toNat))) d)
      = month (ix2 (row 13 x0) d)
        + day (ix2 (row 32 x1) d)
        + weekday (ix2 (row 7 x2) d) := by
  have key : ∀ i j k : Fin 4, (V m c main_v12 : FVec Ideal S64x128 .f32) (ix2 ⟨16 * i.val + 4 * j.val + k.val, by omega⟩ d)
      = month (ix2 ⟨i.val, by omega⟩ d)
        + day (ix2 ⟨j.val, by omega⟩ d)
        + weekday (ix2 ⟨k.val, by omega⟩ d) := by
    intro i j k
    subst e5 e4 e3
    entry_read
    pointwise
  have e : (BitVec.ofNat 32 (16 * x0.toNat + 4 * x1.toNat + x2.toNat)).toNat = 16 * x0.toNat + 4 * x1.toNat + x2.toNat := by
    rw [BitVec.toNat_ofNat]
    omega
  have e64 : row 64 (BitVec.ofNat 32 (16 * x0.toNat + 4 * x1.toNat + x2.toNat))
      = ⟨16 * x0.toNat + 4 * x1.toNat + x2.toNat, by omega⟩ := Fin.ext (by rw [row_val _ _ (by omega), e])
  have e13 : row 13 x0 = ⟨x0.toNat, by omega⟩ := Fin.ext (row_val _ _ (by omega))
  have e32 : row 32 x1 = ⟨x1.toNat, by omega⟩ := Fin.ext (row_val _ _ (by omega))
  have e7 : row 7 x2 = ⟨x2.toNat, by omega⟩ := Fin.ext (row_val _ _ (by omega))
  rw [e64, e13, e32, e7]
  exact key ⟨x0.toNat, h0⟩ ⟨x1.toNat, h1⟩ ⟨x2.toNat, h2⟩

/-- The second combined table at the code of two small words: the sum of the two rows that they name. -/
theorem entry_v19 (c : Dev nD) (hour : FVec Ideal S24x128 .f32) (minute : FVec Ideal S4x128 .f32)
    (e2 : m ((c : Thread nD τ).loc main_arg2) = hour) (e1 : m ((c : Thread nD τ).loc main_arg1) = minute) (x3 x4 : BitVec 32) (h3 : x3.toNat < 4) (h4 : x4.toNat < 4) (d : Fin 128) :
    (V m c main_v19 : FVec Ideal S16x128 .f32) (ix2 (row 16 (BitVec.ofNat 32 (4 * x3.toNat + x4.toNat))) d)
      = hour (ix2 (row 24 x3) d)
        + minute (ix2 (row 4 x4) d) := by
  have key : ∀ i j : Fin 4, (V m c main_v19 : FVec Ideal S16x128 .f32) (ix2 ⟨4 * i.val + j.val, by omega⟩ d)
      = hour (ix2 ⟨i.val, by omega⟩ d)
        + minute (ix2 j d) := by
    intro i j
    subst e2 e1
    entry_read
    pointwise
  have e : (BitVec.ofNat 32 (4 * x3.toNat + x4.toNat)).toNat = 4 * x3.toNat + x4.toNat := by
    rw [BitVec.toNat_ofNat]
    omega
  have e16 : row 16 (BitVec.ofNat 32 (4 * x3.toNat + x4.toNat)) = ⟨4 * x3.toNat + x4.toNat, by omega⟩ :=
    Fin.ext (by rw [row_val _ _ (by omega), e])
  have e24 : row 24 x3 = ⟨x3.toNat, by omega⟩ := Fin.ext (row_val _ _ (by omega))
  have eq4 : row 4 x4 = ⟨x4.toNat, h4⟩ := Fin.ext (row_val _ _ h4)
  rw [e16, e24, eq4]
  exact key ⟨x3.toNat, h3⟩ ⟨x4.toNat, h4⟩

end Cert.Proof

end
-- ==== Proof.Final.lean ====
module

public import proofs.«01_k».proof.Proof.Gen.KernelIdeal.Value
public import Idealize.ShloMosaic.Lib.Pipeline.ValueKit
public import proofs.«01_k».proof.Proof.Rows
public import proofs.«01_k».proof.Proof.Codes
public import proofs.«01_k».proof.Proof.HostTables

@[expose] public section

/-! # The kernel's result array

The array that the 32 grid points write, as one function of the argument arrays: the embedding sum. -/

set_option maxRecDepth 16384

noncomputable section

namespace Cert.Proof

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Where each window's block lies at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, t.val, 0] ∧ t.val < 32 :=
  (by decide +kernel : ∀ t : Fin grid0.N, _)

/-- The block of the first weights is the whole array. -/
theorem block1 (c : Dev nD) (t : Fin cfg0.N) : iblk m c 1 t = V m c main_cst := by
  blk_ext! [iblk, idx t]

/-- The block of the second weights is the whole array. -/
theorem block2 (c : Dev nD) (t : Fin cfg0.N) : iblk m c 2 t = V m c main_v38 := by
  blk_ext! [iblk, idx t]

/-- The block of the first combined table is the whole table. -/
theorem block3 (c : Dev nD) (t : Fin cfg0.N) : iblk m c 3 t = V m c main_v12 := by
  blk_ext! [iblk, idx t]

/-- The block of the second combined table is the whole table. -/
theorem block4 (c : Dev nD) (t : Fin cfg0.N) : iblk m c 4 t = V m c main_v19 := by
  blk_ext! [iblk, idx t]

/-- The block of the indices at a grid point is 128 consecutive batch rows. -/
theorem block0 (c : Dev nD) (t : Fin cfg0.N) (b : Fin 128) (k : Fin 1000) (h : 128 * t.val + b.val < 4096) :
    (iblk m c 0 t : Vec Ideal S128x1000 .i32) (ix2 b k) = (V m c main_v37 : Vec Ideal S4096x1000 .i32) (ix2 ⟨128 * t.val + b.val, h⟩ k) := by
  blk_point [iblk, idx t]

/-- Two zero offsets. -/
theorem zero2 : (![0, 0] : Fin 2 → Nat) = fun _ => 0 := by
  funext a
  match a with
  | ⟨0, _⟩ => rfl
  | ⟨1, _⟩ => rfl

/-- What a grid point stores, at an index of its block: the embedding sum of the batch row that the index lies in. -/
theorem point (c : Dev nD) (t : Fin cfg0.N) (h0 : ∀ i, lit0 i = strided hiWord i.val)
    (x : IVec S4096x200x5 32) (minute : FVec Ideal S4x128 .f32) (hour : FVec Ideal S24x128 .f32) (weekday : FVec Ideal S7x128 .f32)
    (day : FVec Ideal S32x128 .f32) (month : FVec Ideal S13x128 .f32)
    (e0 : m ((c : Thread nD τ).loc main_arg0) = x) (e1 : m ((c : Thread nD τ).loc main_arg1) = minute)
    (e2 : m ((c : Thread nD τ).loc main_arg2) = hour) (e3 : m ((c : Thread nD τ).loc main_arg3) = weekday)
    (e4 : m ((c : Thread nD τ).loc main_arg4) = day) (e5 : m ((c : Thread nD τ).loc main_arg5) = month)
    (hx : ∀ b l s, (x (ix3 b l s)).toNat < 4) (d b : Fin 128) (l : Fin 200) (hb : 128 * t.val + b.val < 4096) :
    out0_5 (iblk m c 0 t) (iblk m c 1 t) (iblk m c 2 t) (iblk m c 3 t) (iblk m c 4 t) (ix3 d b l)
      = embed x minute hour weekday day month d ⟨128 * t.val + b.val, hb⟩ l := by
  have ht : t.val < 32 := (idx t).2.2.2.2.2.2
  have w1 : iblk m c 1 t = weight hiWord := by
    rw [block1, entry_cst]
    exact funext fun i => congrArg (FloatOps.ofBits (F := Ideal) .bf16) (h0 _)
  have w2 : iblk m c 2 t = weight loWord := by
    rw [block2]
    exact entry_v38 m c
  have hv : ∀ (b : Fin 128) (l : Fin 200) (s : Fin 5) (hb : 128 * t.val + b.val < 4096),
      (iblk m c 0 t : Vec Ideal S128x1000 .i32) (ix2 b (slot l s)) = x (ix3 ⟨128 * t.val + b.val, hb⟩ l s) := by
    intro b l s hb
    rw [block0 m c t b (slot l s) hb]
    exact (entry_v37 m c _ l s).trans (congrFun e0 _)
  have ehi : ∀ (b : Fin 128) (l : Fin 200) (hb : 128 * t.val + b.val < 4096), k0_pay3 (F := Ideal) (iblk m c 0 t) (iblk m c 1 t) (ix2 b l)
      = BitVec.ofNat 32 (16 * (x (ix3 ⟨128 * t.val + b.val, hb⟩ l 0)).toNat + 4 * (x (ix3 ⟨128 * t.val + b.val, hb⟩ l 1)).toNat
        + (x (ix3 ⟨128 * t.val + b.val, hb⟩ l 2)).toNat) := by
    intro b l hb
    rw [w1]
    exact hi_code (iblk m c 0 t) b l _ _ _ _ _ (hv b l 0 hb) (hv b l 1 hb) (hv b l 2 hb) (hv b l 3 hb) (hv b l 4 hb)
      (hx _ _ _) (hx _ _ _) (hx _ _ _)
  have elo : ∀ (b : Fin 128) (l : Fin 200) (hb : 128 * t.val + b.val < 4096), k0_pay4 (F := Ideal) (iblk m c 0 t) (iblk m c 2 t) (ix2 b l)
      = BitVec.ofNat 32 (4 * (x (ix3 ⟨128 * t.val + b.val, hb⟩ l 3)).toNat + (x (ix3 ⟨128 * t.val + b.val, hb⟩ l 4)).toNat) := by
    intro b l hb
    rw [w2]
    exact lo_code (iblk m c 0 t) b l _ _ _ _ _ (hv b l 0 hb) (hv b l 1 hb) (hv b l 2 hb) (hv b l 3 hb) (hv b l 4 hb)
      (hx _ _ _) (hx _ _ _)
  have q0 := View.ld_unit_zero zero2 inb_S128x1000_S128x1000_0_0 (iblk m c 0 t : Vec Ideal S128x1000 .i32)
  have q1 := View.ld_unit_zero zero2 inb_S1000x200_S1000x200_0_0 (iblk m c 1 t : Vec Ideal S1000x200 .bf16)
  have q2 := View.ld_unit_zero zero2 inb_S1000x200_S1000x200_0_0 (iblk m c 2 t : Vec Ideal S1000x200 .bf16)
  have q3 := View.ld_unit_zero zero2 inb_S64x128_S64x128_0_0 (iblk m c 3 t : Vec Ideal S64x128 .f32)
  have q4 := View.ld_unit_zero zero2 inb_S16x128_S16x128_0_0 (iblk m c 4 t : Vec Ideal S16x128 .f32)
  refine (out_apply (iblk m c 0 t) (iblk m c 1 t) (iblk m c 2 t) (iblk m c 3 t) (iblk m c 4 t)
    (k0_pay3 (F := Ideal) (iblk m c 0 t) (iblk m c 1 t)) (k0_pay4 (F := Ideal) (iblk m c 0 t) (iblk m c 2 t))
    (congrArg₂ k0_pay3 q0 q1) (congrArg₂ k0_pay4 q0 q2) ?_ ?_ d b l).trans ?_
  · intro i
    obtain ⟨b', l', rfl⟩ : ∃ (b' : Fin 128) (l' : Fin 200), i = (ix2 b' l' : S128x200.Idx) := by
      refine ⟨i 0, i 1, funext fun a => ?_⟩
      match a with
      | ⟨0, _⟩ => rfl
      | ⟨1, _⟩ => rfl
    have hb' : 128 * t.val + b'.val < 4096 := by omega
    rw [ehi b' l' hb', BitVec.toNat_ofNat]
    have := hx ⟨128 * t.val + b'.val, hb'⟩ l' 0
    have := hx ⟨128 * t.val + b'.val, hb'⟩ l' 1
    have := hx ⟨128 * t.val + b'.val, hb'⟩ l' 2
    omega
  · intro i
    obtain ⟨b', l', rfl⟩ : ∃ (b' : Fin 128) (l' : Fin 200), i = (ix2 b' l' : S128x200.Idx) := by
      refine ⟨i 0, i 1, funext fun a => ?_⟩
      match a with
      | ⟨0, _⟩ => rfl
      | ⟨1, _⟩ => rfl
    have hb' : 128 * t.val + b'.val < 4096 := by omega
    rw [elo b' l' hb', BitVec.toNat_ofNat]
    have := hx ⟨128 * t.val + b'.val, hb'⟩ l' 3
    have := hx ⟨128 * t.val + b'.val, hb'⟩ l' 4
    omega
  · rw [ehi b l hb, elo b l hb]
    have p3 := congrFun (q3.trans (block3 m c t)) (ix2 (row 64 (BitVec.ofNat 32 (16 * (x (ix3 ⟨128 * t.val + b.val, hb⟩ l 0)).toNat
      + 4 * (x (ix3 ⟨128 * t.val + b.val, hb⟩ l 1)).toNat + (x (ix3 ⟨128 * t.val + b.val, hb⟩ l 2)).toNat))) d)
    have p4 := congrFun (q4.trans (block4 m c t)) (ix2 (row 16 (BitVec.ofNat 32 (4 * (x (ix3 ⟨128 * t.val + b.val, hb⟩ l 3)).toNat
      + (x (ix3 ⟨128 * t.val + b.val, hb⟩ l 4)).toNat))) d)
    refine (congrArg₂ (fun u v : EReal => u + v)
      (p3.trans (entry_v12 m c month day weekday e5 e4 e3 _ _ _ (hx _ _ _) (hx _ _ _) (hx _ _ _) d))
      (p4.trans (entry_v19 m c hour minute e2 e1 _ _ (hx _ _ _) (hx _ _ _) d))).trans ?_
    unfold embed
    ac_rfl

/-- The result array after the run. -/
theorem final (c : Dev nD) (h0 : ∀ i, lit0 i = strided hiWord i.val)
    (x : IVec S4096x200x5 32) (minute : FVec Ideal S4x128 .f32) (hour : FVec Ideal S24x128 .f32) (weekday : FVec Ideal S7x128 .f32)
    (day : FVec Ideal S32x128 .f32) (month : FVec Ideal S13x128 .f32)
    (e0 : m ((c : Thread nD τ).loc main_arg0) = x) (e1 : m ((c : Thread nD τ).loc main_arg1) = minute)
    (e2 : m ((c : Thread nD τ).loc main_arg2) = hour) (e3 : m ((c : Thread nD τ).loc main_arg3) = weekday)
    (e4 : m ((c : Thread nD τ).loc main_arg4) = day) (e5 : m ((c : Thread nD τ).loc main_arg5) = month)
    (hx : ∀ b l s, (x (ix3 b l s)).toNat < 4) :
    (dats m 0 c).arrAt 5 (cfgs 0).N
      = fun i : S128x4096x200.Idx => embed x minute hour weekday day month (i 0 : Fin 128) (i 1 : Fin 4096) (i 2 : Fin 200) := by
  refine (dats m 0 c).arrAt_eq_of_covers 5 _ (by decide +kernel) fun t _ y => ?_
  blk_simp
  rw [after0_5]
  obtain ⟨d, b, l, rfl⟩ : ∃ (d b : Fin 128) (l : Fin 200), y = (ix3 d b l : S128x128x200.Idx) := by
    refine ⟨y 0, y 1, y 2, funext fun a => ?_⟩
    match a with
    | ⟨0, _⟩ => rfl
    | ⟨1, _⟩ => rfl
    | ⟨2, _⟩ => rfl
  have ht : t.val < 32 := (idx t).2.2.2.2.2.2
  have hb : 128 * t.val + b.val < 4096 := by omega
  refine (point m c t h0 x minute hour weekday day month e0 e1 e2 e3 e4 e5 hx d b l hb).trans ?_
  have c0 : (((win0_5.blk t).view.emb (ix3 d b l : S128x128x200.Idx) 0 : Fin 128)) = d := by
    apply Fin.ext
    blk_simp [idx t]
  have c1 : (((win0_5.blk t).view.emb (ix3 d b l : S128x128x200.Idx) 1 : Fin 4096)) = ⟨128 * t.val + b.val, hb⟩ := by
    apply Fin.ext
    blk_simp [idx t]
    exact congrArg (· + b.val) (Nat.mul_comm t.val 128)
  have c2 : (((win0_5.blk t).view.emb (ix3 d b l : S128x128x200.Idx) 2 : Fin 200)) = l := by
    apply Fin.ext
    blk_simp [idx t]
  exact congr (congr (congrArg (embed x minute hour weekday day month) c0.symm) c1.symm) c2.symm

end Cert.Proof

end
-- ==== Proof.Ref.lean ====
module

public import proofs.«01_k».proof.Proof.Gen.ReferenceIdeal.Run
public import proofs.«01_k».proof.Proof.Spec
public import Idealize.ShloMosaic.Lib.Pointwise
public import Idealize.ShloMosaic.Lib.WordCmp

@[expose] public section

/-! # The reference's result, entry by entry

The reference takes a row out of each table by a gather whose start indices are the codes, negative codes counted from
the end of the table, and puts a not-a-number where a code lies outside the table. Where every code is one of 0, 1, 2
and 3 the gather reads the row that the code names. -/

set_option maxRecDepth 16384

noncomputable section

namespace Cert.Proof

open Idealize.ShloMosaic Idealize.ShloMosaic.TcCoe Idealize.SL.Sem
open Cert.ReferenceIdeal Cert.ReferenceIdeal.Gen Cert.ReferenceIdeal.Value

/-- The dimension numbers of a gather of whole rows of a table of `N` rows, one row per batch row and position. -/
abbrev rowDims (N : Nat) (wf : GatherDims.WF (⟨2, ![N, 128]⟩ : Shape) S4096x200x1 S4096x200x128 [2] [0] [] [0] [] 2 ![1, 128]) :
    GatherDims (⟨2, ![N, 128]⟩ : Shape) S4096x200x1 S4096x200x128 where
  offsetDims := [2]
  collapsedSliceDims := [0]
  operandBatchingDims := []
  startIndicesBatchingDims := []
  startIndexMap := [0]
  indexVectorDim := 2
  sliceSizes := ![1, 128]
  wf := wf

/-- Where the start index of `(b, l)` is a row number `k` below `N`, entry `(b, l, e)` of such a gather is the table's
    entry `(k, e)`. -/
theorem gather_rows {α : Type} {N : Nat}
    (wf : GatherDims.WF (⟨2, ![N, 128]⟩ : Shape) S4096x200x1 S4096x200x128 [2] [0] [] [0] [] 2 ![1, 128])
    (x : (⟨2, ![N, 128]⟩ : Shape).Idx → α) (idx : IVec S4096x200x1 32) (b : Fin 4096) (l : Fin 200) (e : Fin 128) (k : Fin N)
    (hk : (idx (ix3 b l 0)).toInt.toNat = k.val) :
    Host.gather (rowDims N wf) x idx (ix3 b l e) = x (ix2 k e) := by
  have hk' := k.isLt
  unfold Host.gather
  refine congrArg x (funext fun a => Fin.ext ?_)
  have none : ∀ a : Fin 2, a ∉ (rowDims N wf).operandBatchingDims := fun _ => List.not_mem_nil
  match a with
  | ⟨0, _⟩ =>
    show (rowDims N wf).start _ idx 0 + (rowDims N wf).batchCoord _ 0 + (rowDims N wf).offCoord _ 0 = k.val
    rw [GatherDims.batchCoord_eq_zero _ _ _ (none 0),
      GatherDims.offCoord_eq_zero _ _ _ (fun h => ((GatherDims.mem_sKept _ _).mp h).1 (List.mem_singleton.mpr rfl))]
    unfold GatherDims.start
    rw [dif_pos (show (0 : Fin 2) ∈ (rowDims N wf).startIndexMap from List.mem_singleton.mpr rfl)]
    have hs : (rowDims N wf).siIdx (ix3 b l e) ⟨List.idxOf (0 : Fin 2) (rowDims N wf).startIndexMap,
        List.idxOf_lt_length_iff.2 (List.mem_singleton.mpr rfl)⟩ = ix3 b l 0 := by
      funext q
      match q with
      | ⟨0, _⟩ => rfl
      | ⟨1, _⟩ => rfl
      | ⟨2, _⟩ => rfl
    rw [hs, hk]
    show min k.val (N - 1) + 0 + 0 = k.val
    omega
  | ⟨1, _⟩ =>
    show (rowDims N wf).start _ idx 1 + (rowDims N wf).batchCoord _ 1 + (rowDims N wf).offCoord _ 1 = e.val
    rw [GatherDims.batchCoord_eq_zero _ _ _ (none 1)]
    unfold GatherDims.start
    rw [dif_neg (by simp)]
    show 0 + 0 + e.val = e.val
    omega

/-- The rows of one table that the reference takes at the codes `col`: the in-bounds test, the gather and the filler. -/
def taken {N : Nat} (d : GatherDims (⟨2, ![N, 128]⟩ : Shape) S4096x200x1 S4096x200x128) (n top : BitVec 32)
    (tbl : FVec Ideal (⟨2, ![N, 128]⟩ : Shape) .f32) (col : IVec S4096x200 32) : FVec Ideal S4096x200x128 .f32 :=
  let idx : IVec S4096x200x1 32 := broadcastInDim S4096x200x1 ![0, 1] bcast_S4096x200_S4096x200x1_0_1
    (select (cmpi .slt col (broadcastInDim S4096x200 ![] bcast_S_S4096x200 (constantI S_ 32 0#32)))
      (addi col (broadcastInDim S4096x200 ![] bcast_S_S4096x200 (constantI S_ 32 n))) col)
  select (broadcastInDim S4096x200x128 ![0, 1] bcast_S4096x200_S4096x200x128_0_1
      (Host.reduce IntOp.andi
        (andi (cmpi .sge idx (broadcastInDim S4096x200x1 ![] bcast_S_S4096x200x1 (constantI S_ 32 0#32)))
          (cmpi .sle idx (broadcastInDim S4096x200x1 ![0, 1, 2] bcast_S1x1x1_S4096x200x1_0_1_2
            (broadcastInDim S1x1x1 ![2] bcast_S1_S1x1x1_2 (constantI S1 32 top)))))
        (constantI S_ 1 1#1) reducesTo_S4096x200x1_S4096x200_d2 h_S_))
    (Host.gather d tbl idx)
    (broadcastInDim S4096x200x128 ![] bcast_S_S4096x200x128 (constant S_ .f32 0x7FC00000#32))

/-- The codes in column `t` of the index array. -/
def column (o : Fin 3 → Nat) (h : S4096x200x5.Slices o S4096x200x1) (x : IVec S4096x200x5 32) : IVec S4096x200 32 :=
  shapeCast S4096x200 (extractStridedSlice S4096x200x1 o x h) shapeCasts_S4096x200x1_S4096x200

/-- The reference's whole result as the sum of the rows taken, features first. -/
def reference (x : IVec S4096x200x5 32) (minute : FVec Ideal S4x128 .f32) (hour : FVec Ideal S24x128 .f32)
    (weekday : FVec Ideal S7x128 .f32) (day : FVec Ideal S32x128 .f32) (month : FVec Ideal S13x128 .f32) :
    FVec Ideal S128x4096x200 .f32 :=
  transpose S128x4096x200 [2, 0, 1]
    (addf (addf (addf (addf
      (taken gather_S24x128_S4096x200x1_S4096x200x128_2_0_n_n_0_2_1128 24#32 23#32 hour (column ![0, 0, 3] slices_S4096x200x5_S4096x200x1_0_0_3 x))
      (taken gather_S7x128_S4096x200x1_S4096x200x128_2_0_n_n_0_2_1128 7#32 6#32 weekday (column ![0, 0, 2] slices_S4096x200x5_S4096x200x1_0_0_2 x)))
      (taken gather_S32x128_S4096x200x1_S4096x200x128_2_0_n_n_0_2_1128 32#32 31#32 day (column ![0, 0, 1] slices_S4096x200x5_S4096x200x1_0_0_1 x)))
      (taken gather_S13x128_S4096x200x1_S4096x200x128_2_0_n_n_0_2_1128 13#32 12#32 month (column ![0, 0, 0] slices_S4096x200x5_S4096x200x1_0_0_0 x)))
      (taken gather_S4x128_S4096x200x1_S4096x200x128_2_0_n_n_0_2_1128 4#32 3#32 minute (column ![0, 0, 4] slices_S4096x200x5_S4096x200x1_0_0_4 x)))
    transposes_S4096x200x128_S128x4096x200_2_0_1

/-- The term that the reference's run leaves is that sum of the argument arrays. -/
theorem res_eq (m : (ℓ : Loc nD τ sig) → Buf (Elt Ideal) ℓ) (c : Dev nD) :
    res_main_v19 m c = reference (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  unfold res_main_v19 reference taken column
  rfl

/-- A word below 4, read as a signed number, is its own number. -/
theorem toInt_small (w : BitVec 32) (h : w.toNat < 4) : w.toInt = w.toNat := by
  rw [BitVec.toInt_eq_toNat_cond, if_pos (by omega)]

/-- The rows taken, where the code is below 4 and the table has at least four rows. -/
theorem taken_apply {N : Nat} [NeZero N] (hN : 4 ≤ N) (hN' : N < 100)
    (wf : GatherDims.WF (⟨2, ![N, 128]⟩ : Shape) S4096x200x1 S4096x200x128 [2] [0] [] [0] [] 2 ![1, 128])
    (n top : BitVec 32) (htop : top.toNat = N - 1)
    (tbl : FVec Ideal (⟨2, ![N, 128]⟩ : Shape) .f32) (col : IVec S4096x200 32) (b : Fin 4096) (l : Fin 200) (e : Fin 128)
    (h : (col (ix2 b l)).toNat < 4) :
    taken (rowDims N wf) n top tbl col (ix3 b l e) = tbl (ix2 (row N (col (ix2 b l))) e) := by
  have hi := toInt_small _ h
  have htop' : top.toInt = top.toNat := by
    rw [BitVec.toInt_eq_toNat_cond, if_pos (by omega)]
  have hneg : IntOp.cmpi .slt (col (ix2 b l)) 0#32 = 0#1 := by
    have : ¬ (col (ix2 b l)).toInt < 0 := by
      rw [hi]; omega
    simp [IntOp.cmpi, BitVec.slt, this]
  have hge : IntOp.cmpi .sge (col (ix2 b l)) 0#32 = 1#1 := by
    have : 0 ≤ (col (ix2 b l)).toInt := by
      rw [hi]; omega
    simp [IntOp.cmpi, BitVec.sle, this]
  have hle : IntOp.cmpi .sle (col (ix2 b l)) top = 1#1 := by
    have : (col (ix2 b l)).toInt ≤ top.toInt := by
      rw [hi, htop', htop]; omega
    simp [IntOp.cmpi, BitVec.sle, this]
  unfold taken
  dsimp only
  rw [show ∀ (p : IVec S4096x200x128 1) (u v : FVec Ideal S4096x200x128 .f32) i, select p u v i = Scalar.select (p i) (u i) (v i) from fun _ _ _ _ => rfl]
  rw [gather_rows wf _ _ b l e (row N (col (ix2 b l)))
    (by pointwise; rw [hneg]; rw [row_val _ _ (by omega)]; show (col (ix2 b l)).toInt.toNat = _; rw [hi]; omega)]
  pointwise [hneg, hge, hle]
  rfl

/-- The codes of column `t`. -/
theorem column_apply (t : Fin 5) (h : S4096x200x5.Slices ![0, 0, t.val] S4096x200x1) (x : IVec S4096x200x5 32) (b : Fin 4096) (l : Fin 200) :
    column ![0, 0, t.val] h x (ix2 b l) = x (ix3 b l t) := by
  unfold column
  pointwise

/-- The reference's result at feature `d`, batch row `b` and position `l`, where the five codes there are below 4. -/
theorem reference_apply (x : IVec S4096x200x5 32) (minute : FVec Ideal S4x128 .f32) (hour : FVec Ideal S24x128 .f32)
    (weekday : FVec Ideal S7x128 .f32) (day : FVec Ideal S32x128 .f32) (month : FVec Ideal S13x128 .f32)
    (d : Fin 128) (b : Fin 4096) (l : Fin 200) (h : ∀ t : Fin 5, (x (ix3 b l t)).toNat < 4) :
    reference x minute hour weekday day month (ix3 d b l) = embed x minute hour weekday day month d b l := by
  have h3 : column ![0, 0, 3] slices_S4096x200x5_S4096x200x1_0_0_3 x (ix2 b l) = x (ix3 b l 3) :=
    column_apply 3 slices_S4096x200x5_S4096x200x1_0_0_3 x b l
  have h2 : column ![0, 0, 2] slices_S4096x200x5_S4096x200x1_0_0_2 x (ix2 b l) = x (ix3 b l 2) :=
    column_apply 2 slices_S4096x200x5_S4096x200x1_0_0_2 x b l
  have h1 : column ![0, 0, 1] slices_S4096x200x5_S4096x200x1_0_0_1 x (ix2 b l) = x (ix3 b l 1) :=
    column_apply 1 slices_S4096x200x5_S4096x200x1_0_0_1 x b l
  have h0 : column ![0, 0, 0] slices_S4096x200x5_S4096x200x1_0_0_0 x (ix2 b l) = x (ix3 b l 0) :=
    column_apply 0 slices_S4096x200x5_S4096x200x1_0_0_0 x b l
  have h4 : column ![0, 0, 4] slices_S4096x200x5_S4096x200x1_0_0_4 x (ix2 b l) = x (ix3 b l 4) :=
    column_apply 4 slices_S4096x200x5_S4096x200x1_0_0_4 x b l
  unfold reference embed
  pointwise
  refine congrArg₂ (· + ·) (congrArg₂ (· + ·) (congrArg₂ (· + ·) (congrArg₂ (· + ·) ?_ ?_) ?_) ?_) ?_
  · exact (taken_apply (by omega) (by omega) _ _ _ rfl _ _ b l d (h3 ▸ h 3)).trans (by rw [← h3])
  · exact (taken_apply (by omega) (by omega) _ _ _ rfl _ _ b l d (h2 ▸ h 2)).trans (by rw [← h2])
  · exact (taken_apply (by omega) (by omega) _ _ _ rfl _ _ b l d (h1 ▸ h 1)).trans (by rw [← h1])
  · exact (taken_apply (by omega) (by omega) _ _ _ rfl _ _ b l d (h0 ▸ h 0)).trans (by rw [← h0])
  · exact (taken_apply (by omega) (by omega) _ _ _ rfl _ _ b l d (h4 ▸ h 4)).trans (by rw [← h4])

end Cert.Proof

end
-- ==== Proof.InRange.lean ====
module

public import proofs.«01_k».proof.Pre_index_range
public import Idealize.ShloMosaic.Lib.ReduceAll
public import Idealize.ShloMosaic.Lib.Affine
public import Idealize.ShloMosaic.Lib.Pointwise

@[expose] public section

/-! # What the precondition says of the indices -/

set_option maxRecDepth 16384

noncomputable section

namespace Cert.Proof

open Idealize.ShloMosaic
open Cert.Pre_index_range

/-- Where the precondition holds, every index is a number below 4. -/
theorem in_range [Cert.Pre_index_range.Facts] (x : IVec S4096x200x5 32) (minute : FVec Ideal S4x128 .f32) (hour : FVec Ideal S24x128 .f32)
    (weekday : FVec Ideal S7x128 .f32) (day : FVec Ideal S32x128 .f32) (month : FVec Ideal S13x128 .f32)
    (h : Cert.Pre_index_range.fn (F := Ideal) x minute hour weekday day month = fun _ => 1#1)
    (b : Fin 4096) (l : Fin 200) (t : Fin 5) : (x (ix3 b l t)).toNat < 4 := by
  have h' := congrFun h ix0
  dsimp only [fn] at h'
  have e := Host.reduce_andi_all _ _ _ _ _ h' (ix3 b l t)
  revert e
  pointwise
  intro e
  obtain ⟨e1, e2⟩ := IntOp.andi_eq_one.mp e
  have g1 := IntOp.cmpi_sge.mp e1
  have g2 := IntOp.cmpi_slt.mp e2
  have n0 : (0#32 : BitVec 32).toInt = 0 := by decide
  have n4 : (4#32 : BitVec 32).toInt = 4 := by decide
  rw [n0] at g1
  rw [n4] at g2
  have hc := BitVec.toInt_eq_toNat_cond (x (ix3 b l t))
  have hlt := (x (ix3 b l t)).isLt
  split at hc <;> omega

end Cert.Proof

end
-- ==== Proof.Algebraic.lean ====
module

public import proofs.«01_k».proof.Defs
public import proofs.«01_k».proof.Proof.Gen.KernelIdeal.Value
public import proofs.«01_k».proof.Proof.Gen.ReferenceIdeal.Run
public import proofs.«01_k».proof.Proof.Gen.Pre_index_range
public import Idealize.ShloMosaic.Lib.Quiescent
public import proofs.«01_k».proof.Proof.Final
public import proofs.«01_k».proof.Proof.Ref
public import proofs.«01_k».proof.Proof.InRange

@[expose] public section

/-! # The claims that need the reference's run -/

set_option maxRecDepth 16384

noncomputable section

namespace Cert.Proof

open Idealize.ShloMosaic Idealize.SL.Sem

/-- The reference runs, leaves its arguments as they were and every counter at zero. -/
theorem reference_frame : @Cert.quiescent_ReferenceIdeal Cert.ReferenceIdeal.Gen.facts := by
  intro m g _
  exact (θ_run Cert.ReferenceIdeal.defs _ _).mono (fun r h => ⟨fun c => (h c).2, sem_eq_zero_of_no_sems rfl _⟩)
    (Cert.ReferenceIdeal.Value.run (F := Ideal) m g)

/-- The same run under the precondition. -/
theorem reference_frame_in_range : @Cert.quiescent_ReferenceIdeal_pre_index_range Cert.ReferenceIdeal.Gen.facts Cert.Pre_index_range.Gen.facts :=
  fun m g _ => reference_frame m g trivial

/-- The kernel and the reference, both at extended reals, end with the same result where the indices are in range. -/
theorem algebraic (h0 : ∀ i, Cert.KernelIdeal.lit0 i = strided hiWord i.val) :
    @Cert.algebraic_KernelIdeal_ReferenceIdeal_pre_index_range Cert.KernelIdeal.Gen.facts Cert.ReferenceIdeal.Gen.facts
      Cert.Pre_index_range.Gen.facts := by
  intro m g m' g' hpre hagree
  refine ⟨fun c => (Cert.KernelIdeal.Gen.dats m 0 c).arrAt 5 Cert.KernelIdeal.cfg0.N, Cert.KernelIdeal.Value.run_blocks m g, ?_⟩
  refine (θ_run Cert.ReferenceIdeal.defs _ _).mono (fun r h c => ⟨(h c).1.trans ?_, (h c).2⟩)
    (Cert.ReferenceIdeal.Value.run (F := Ideal) m' g')
  obtain ⟨a0, a1, a2, a3, a4, a5⟩ := hagree c
  have hx := fun b l t => @in_range Cert.Pre_index_range.Gen.facts _ _ _ _ _ _ (hpre c) b l t
  refine Eq.trans ?_ (final m c h0 _ _ _ _ _ _ rfl rfl rfl rfl rfl rfl hx).symm
  rw [res_eq, a0, a1, a2, a3, a4, a5]
  funext i
  obtain ⟨d, b, l, rfl⟩ : ∃ (d : Fin 128) (b : Fin 4096) (l : Fin 200), i = (ix3 d b l : Cert.KernelIdeal.S128x4096x200.Idx) := by
    refine ⟨i 0, i 1, i 2, funext fun a => ?_⟩
    match a with
    | ⟨0, _⟩ => rfl
    | ⟨1, _⟩ => rfl
    | ⟨2, _⟩ => rfl
  exact reference_apply _ _ _ _ _ _ d b l fun t => hx b l t

end Cert.Proof

end
-- ==== Proof.TableHi.lean ====
module

public import proofs.«01_k».proof.KernelIdeal
public import proofs.«01_k».proof.Proof.Pick

@[expose] public section

/-! # The constant array, entry by entry -/

set_option maxRecDepth 16384

namespace Cert.Proof

open Cert.KernelIdeal

set_option maxHeartbeats 0 in
set_option smartUnfolding false in
/-- The 13 branches of the constant array's stored tree are those of its closed form. -/
theorem lit0_branches (i : Nat) :
    lit0t1_0 i = branch (strided hiWord) 0 i
      ∧ lit0t1_1 i = branch (strided hiWord) 1 i
      ∧ lit0t1_2 i = branch (strided hiWord) 2 i
      ∧ lit0t1_3 i = branch (strided hiWord) 3 i
      ∧ lit0t1_4 i = branch (strided hiWord) 4 i
      ∧ lit0t1_5 i = branch (strided hiWord) 5 i
      ∧ lit0t1_6 i = branch (strided hiWord) 6 i
      ∧ lit0t1_7 i = branch (strided hiWord) 7 i
      ∧ lit0t1_8 i = branch (strided hiWord) 8 i
      ∧ lit0t1_9 i = branch (strided hiWord) 9 i
      ∧ lit0t1_10 i = branch (strided hiWord) 10 i
      ∧ lit0t1_11 i = branch (strided hiWord) 11 i
      ∧ lit0t1_12 i = branch (strided hiWord) 12 i := by
  refine ⟨?_, ?_, ?_, ?_, ?_, ?_, ?_, ?_, ?_, ?_, ?_, ?_, ?_⟩ <;> with_unfolding_all rfl

set_option smartUnfolding false in
/-- The stored tree of the constant array is the tree of its closed form. -/
theorem lit0t_tree (i : Nat) : lit0t i = digits (strided hiWord) i := by
  obtain ⟨h0, h1, h2, h3, h4, h5, h6, h7, h8, h9, h10, h11, h12⟩ := lit0_branches i
  unfold lit0t digits
  rw [h0, h1, h2, h3, h4, h5, h6, h7, h8, h9, h10, h11, h12]
  generalize branch (strided hiWord) = g
  with_unfolding_all rfl

/-- Every entry of the constant array in closed form. -/
theorem lit0_entry (i : Fin 200000) : lit0 i = strided hiWord i.val := by
  obtain ⟨i, hi⟩ := i
  exact (lit0t_tree i).trans (digits_eq _ i hi)

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_index_range
public import proofs.«01_k».proof.Proof.Algebraic
public import proofs.«01_k».proof.Proof.TableHi
public import Idealize.ShloMosaic.Adequacy
public import Idealize.ShloMosaic.Init

@[expose] public section

noncomputable section

namespace Cert.Proof

open Idealize.ShloMosaic Idealize.SL.Sem Cert.Kernel

/-- All the claims: the three frames, also under the precondition, and that the kernel's ideal program computes what the
reference's does where the indices are in range. -/
theorem claim : Cert.Claim :=
  ⟨Cert.Kernel.Gen.facts, Cert.KernelIdeal.Gen.facts, Cert.ReferenceIdeal.Gen.facts, Cert.Pre_index_range.Gen.facts,
    fun m g _ => Cert.Kernel.Gen.frame m g, fun m g _ => Cert.KernelIdeal.Gen.frame m g,
    fun m g _ => Cert.KernelIdeal.Gen.frame m g, reference_frame, reference_frame_in_range, trivial,
    algebraic lit0_entry⟩

end Cert.Proof

end
